-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x1024 : Shape := ⟨2, ![32768, 1024]⟩
abbrev S10912x1024 : Shape := ⟨2, ![10912, 1024]⟩
abbrev S1024x1024 : Shape := ⟨2, ![1024, 1024]⟩
abbrev S_ : Shape := ⟨0, ![]⟩
abbrev S11 : Shape := ⟨1, ![11]⟩
abbrev S8 : Shape := ⟨1, ![8]⟩
abbrev S3 : Shape := ⟨1, ![3]⟩
abbrev S4 : Shape := ⟨1, ![4]⟩
abbrev S1 : Shape := ⟨1, ![1]⟩
abbrev S672x1024 : Shape := ⟨2, ![672, 1024]⟩
abbrev S336x1024 : Shape := ⟨2, ![336, 1024]⟩
abbrev S688x1024 : Shape := ⟨2, ![688, 1024]⟩
abbrev S352x1024 : Shape := ⟨2, ![352, 1024]⟩

abbrev nBuf : Space → Nat
  | .hbm => 2
  | .vmem => 3
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .local _ .vmem, ⟨0, _⟩ => ⟨S10912x1024, .bf16⟩
  | .local _ .vmem, ⟨1, _⟩ => ⟨S10912x1024, .bf16⟩
  | .local _ .vmem, ⟨2, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  (ofTc nBuf bufTy 1 80 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_15 : BitVec 32 := 4#32
  let v25 : BitVec 32 := Scalar.muli v9 c4_i32_15
  let v26 : BitVec 32 := Scalar.addi c0_i32 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v27 : BitVec 32 := Scalar.muli v5 c2_i32_16
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v29 : BitVec 32 := Scalar.muli v8 c1_i32_17
  let v30 : BitVec 32 := Scalar.addi v28 v29
  v30.toNat
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v31 : BitVec 32 := Scalar.muli v2 c4_i32_19
  let v32 : BitVec 32 := Scalar.addi c0_i32_20 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_21 : BitVec 32 := 2#32
  let v33 : BitVec 32 := Scalar.muli v5 c2_i32_21
  let v34 : BitVec 32 := Scalar.addi v32 v33
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_22 : BitVec 32 := 1#32
  let v35 : BitVec 32 := Scalar.muli v10 c1_i32_22
  let v36 : BitVec 32 := Scalar.addi v34 v35
  v36.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v37 : BitVec 32 := Scalar.muli v2 c4_i32_24
  let v38 : BitVec 32 := Scalar.addi c0_i32_25 v37
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_26 : BitVec 32 := 2#32
  let v39 : BitVec 32 := Scalar.muli v11 c2_i32_26
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v41 : BitVec 32 := Scalar.muli v8 c1_i32_27
  let v42 : BitVec 32 := Scalar.addi v40 v41
  v42.toNat
def k0_off1 (d0 : Dev nD) (c0_i32_28 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c8192_i32 : BitVec 32 := 8192#32
  let v43 : BitVec 32 := Scalar.muli v13 c8192_i32
  let v44 : BitVec 32 := Scalar.addi v43 c0_i32_28
  let c0_i32_29 : BitVec 32 := 0#32
  ![v44.toNat, 0]
def k0_dev4 (d0 : Dev nD) : Nat :=
  let c0_i32_37 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_36 : BitVec 32 := 4#32
  let v52 : BitVec 32 := Scalar.muli v9 c4_i32_36
  let v53 : BitVec 32 := Scalar.addi c0_i32_37 v52
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v54 : BitVec 32 := Scalar.muli v5 c2_i32_38
  let v55 : BitVec 32 := Scalar.addi v53 v54
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v56 : BitVec 32 := Scalar.muli v8 c1_i32_39
  let v57 : BitVec 32 := Scalar.addi v55 v56
  v57.toNat
def k0_dev5 (d0 : Dev nD) : Nat :=
  let c0_i32_53 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_52 : BitVec 32 := 4#32
  let v73 : BitVec 32 := Scalar.muli v9 c4_i32_52
  let v74 : BitVec 32 := Scalar.addi c0_i32_53 v73
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_54 : BitVec 32 := 2#32
  let v75 : BitVec 32 := Scalar.muli v5 c2_i32_54
  let v76 : BitVec 32 := Scalar.addi v74 v75
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_55 : BitVec 32 := 1#32
  let v77 : BitVec 32 := Scalar.muli v8 c1_i32_55
  let v78 : BitVec 32 := Scalar.addi v76 v77
  v78.toNat
def k0_dev6 (d0 : Dev nD) : Nat :=
  let c0_i32_69 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_68 : BitVec 32 := 4#32
  let v94 : BitVec 32 := Scalar.muli v9 c4_i32_68
  let v95 : BitVec 32 := Scalar.addi c0_i32_69 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_70 : BitVec 32 := 2#32
  let v96 : BitVec 32 := Scalar.muli v5 c2_i32_70
  let v97 : BitVec 32 := Scalar.addi v95 v96
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v98 : BitVec 32 := Scalar.muli v8 c1_i32_71
  let v99 : BitVec 32 := Scalar.addi v97 v98
  v99.toNat
def k0_dev7 (d0 : Dev nD) : Nat :=
  let c0_i32_85 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_84 : BitVec 32 := 4#32
  let v115 : BitVec 32 := Scalar.muli v9 c4_i32_84
  let v116 : BitVec 32 := Scalar.addi c0_i32_85 v115
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_86 : BitVec 32 := 2#32
  let v117 : BitVec 32 := Scalar.muli v5 c2_i32_86
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_87 : BitVec 32 := 1#32
  let v119 : BitVec 32 := Scalar.muli v8 c1_i32_87
  let v120 : BitVec 32 := Scalar.addi v118 v119
  v120.toNat
def k0_dev8 (d0 : Dev nD) : Nat :=
  let c0_i32_101 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_100 : BitVec 32 := 4#32
  let v136 : BitVec 32 := Scalar.muli v9 c4_i32_100
  let v137 : BitVec 32 := Scalar.addi c0_i32_101 v136
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_102 : BitVec 32 := 2#32
  let v138 : BitVec 32 := Scalar.muli v5 c2_i32_102
  let v139 : BitVec 32 := Scalar.addi v137 v138
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_103 : BitVec 32 := 1#32
  let v140 : BitVec 32 := Scalar.muli v8 c1_i32_103
  let v141 : BitVec 32 := Scalar.addi v139 v140
  v141.toNat
def k0_dev9 (d0 : Dev nD) : Nat :=
  let c0_i32_116 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_115 : BitVec 32 := 4#32
  let v157 : BitVec 32 := Scalar.muli v9 c4_i32_115
  let v158 : BitVec 32 := Scalar.addi c0_i32_116 v157
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_117 : BitVec 32 := 2#32
  let v159 : BitVec 32 := Scalar.muli v5 c2_i32_117
  let v160 : BitVec 32 := Scalar.addi v158 v159
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_118 : BitVec 32 := 1#32
  let v161 : BitVec 32 := Scalar.muli v8 c1_i32_118
  let v162 : BitVec 32 := Scalar.addi v160 v161
  v162.toNat
def k0_dev10 (d0 : Dev nD) : Nat :=
  let c0_i32_131 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_130 : BitVec 32 := 4#32
  let v178 : BitVec 32 := Scalar.muli v9 c4_i32_130
  let v179 : BitVec 32 := Scalar.addi c0_i32_131 v178
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_132 : BitVec 32 := 2#32
  let v180 : BitVec 32 := Scalar.muli v5 c2_i32_132
  let v181 : BitVec 32 := Scalar.addi v179 v180
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_133 : BitVec 32 := 1#32
  let v182 : BitVec 32 := Scalar.muli v8 c1_i32_133
  let v183 : BitVec 32 := Scalar.addi v181 v182
  v183.toNat
def k0_dev11 (d0 : Dev nD) : Nat :=
  let c0_i32_146 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_145 : BitVec 32 := 4#32
  let v199 : BitVec 32 := Scalar.muli v9 c4_i32_145
  let v200 : BitVec 32 := Scalar.addi c0_i32_146 v199
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_147 : BitVec 32 := 2#32
  let v201 : BitVec 32 := Scalar.muli v5 c2_i32_147
  let v202 : BitVec 32 := Scalar.addi v200 v201
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_148 : BitVec 32 := 1#32
  let v203 : BitVec 32 := Scalar.muli v8 c1_i32_148
  let v204 : BitVec 32 := Scalar.addi v202 v203
  v204.toNat
def k0_off2 (d0 : Dev nD) (c5472_i32 : BitVec 32) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c8192_i32_153 : BitVec 32 := 8192#32
  let v211 : BitVec 32 := Scalar.muli v23 c8192_i32_153
  let v212 : BitVec 32 := Scalar.addi v211 c5472_i32
  let c0_i32_156 : BitVec 32 := 0#32
  ![v212.toNat, 0]
def k0_off2_at (r : Fin 6) : BitVec 32 :=
  if r.val < 3 then
    if r.val < 1 then
      5472#32
    else
      if r.val < 2 then
        6496#32
      else
        0#32
  else
    if r.val < 4 then
      1024#32
    else
      if r.val < 5 then
        3072#32
      else
        4096#32
def k0_dev12 (d0 : Dev nD) : Nat :=
  let c0_i32_165 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_164 : BitVec 32 := 4#32
  let v222 : BitVec 32 := Scalar.muli v9 c4_i32_164
  let v223 : BitVec 32 := Scalar.addi c0_i32_165 v222
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_166 : BitVec 32 := 2#32
  let v224 : BitVec 32 := Scalar.muli v5 c2_i32_166
  let v225 : BitVec 32 := Scalar.addi v223 v224
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_167 : BitVec 32 := 1#32
  let v226 : BitVec 32 := Scalar.muli v8 c1_i32_167
  let v227 : BitVec 32 := Scalar.addi v225 v226
  v227.toNat
def k0_dev13 (d0 : Dev nD) : Nat :=
  let c0_i32_184 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_183 : BitVec 32 := 4#32
  let v245 : BitVec 32 := Scalar.muli v9 c4_i32_183
  let v246 : BitVec 32 := Scalar.addi c0_i32_184 v245
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_185 : BitVec 32 := 2#32
  let v247 : BitVec 32 := Scalar.muli v5 c2_i32_185
  let v248 : BitVec 32 := Scalar.addi v246 v247
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_186 : BitVec 32 := 1#32
  let v249 : BitVec 32 := Scalar.muli v8 c1_i32_186
  let v250 : BitVec 32 := Scalar.addi v248 v249
  v250.toNat
def k0_off3 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c8192_i32_190 : BitVec 32 := 8192#32
  let v257 : BitVec 32 := Scalar.muli v23 c8192_i32_190
  let c7520_i32 : BitVec 32 := 7520#32
  let v258 : BitVec 32 := Scalar.addi v257 c7520_i32
  let c0_i32_193 : BitVec 32 := 0#32
  ![v258.toNat, 0]
def k0_dev14 (d0 : Dev nD) : Nat :=
  let c0_i32_202 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_201 : BitVec 32 := 4#32
  let v268 : BitVec 32 := Scalar.muli v9 c4_i32_201
  let v269 : BitVec 32 := Scalar.addi c0_i32_202 v268
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_203 : BitVec 32 := 2#32
  let v270 : BitVec 32 := Scalar.muli v5 c2_i32_203
  let v271 : BitVec 32 := Scalar.addi v269 v270
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_204 : BitVec 32 := 1#32
  let v272 : BitVec 32 := Scalar.muli v8 c1_i32_204
  let v273 : BitVec 32 := Scalar.addi v271 v272
  v273.toNat
def k0_dev15 (d0 : Dev nD) : Nat :=
  let c0_i32_242 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_241 : BitVec 32 := 4#32
  let v311 : BitVec 32 := Scalar.muli v2 c4_i32_241
  let v312 : BitVec 32 := Scalar.addi c0_i32_242 v311
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_243 : BitVec 32 := 2#32
  let v313 : BitVec 32 := Scalar.muli v5 c2_i32_243
  let v314 : BitVec 32 := Scalar.addi v312 v313
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_244 : BitVec 32 := 1#32
  let v315 : BitVec 32 := Scalar.muli v10 c1_i32_244
  let v316 : BitVec 32 := Scalar.addi v314 v315
  v316.toNat
def k0_dev16 (d0 : Dev nD) : Nat :=
  let c0_i32_253 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_252 : BitVec 32 := 4#32
  let v325 : BitVec 32 := Scalar.muli v2 c4_i32_252
  let v326 : BitVec 32 := Scalar.addi c0_i32_253 v325
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_254 : BitVec 32 := 2#32
  let v327 : BitVec 32 := Scalar.muli v11 c2_i32_254
  let v328 : BitVec 32 := Scalar.addi v326 v327
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_255 : BitVec 32 := 1#32
  let v329 : BitVec 32 := Scalar.muli v8 c1_i32_255
  let v330 : BitVec 32 := Scalar.addi v328 v329
  v330.toNat
def k0_dev17 (d0 : Dev nD) : Nat :=
  let c0_i32_293 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_292 : BitVec 32 := 4#32
  let v368 : BitVec 32 := Scalar.muli v2 c4_i32_292
  let v369 : BitVec 32 := Scalar.addi c0_i32_293 v368
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_294 : BitVec 32 := 2#32
  let v370 : BitVec 32 := Scalar.muli v5 c2_i32_294
  let v371 : BitVec 32 := Scalar.addi v369 v370
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_295 : BitVec 32 := 1#32
  let v372 : BitVec 32 := Scalar.muli v10 c1_i32_295
  let v373 : BitVec 32 := Scalar.addi v371 v372
  v373.toNat
def k0_dev18 (d0 : Dev nD) : Nat :=
  let c0_i32_304 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_303 : BitVec 32 := 4#32
  let v382 : BitVec 32 := Scalar.muli v2 c4_i32_303
  let v383 : BitVec 32 := Scalar.addi c0_i32_304 v382
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_305 : BitVec 32 := 2#32
  let v384 : BitVec 32 := Scalar.muli v11 c2_i32_305
  let v385 : BitVec 32 := Scalar.addi v383 v384
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_306 : BitVec 32 := 1#32
  let v386 : BitVec 32 := Scalar.muli v8 c1_i32_306
  let v387 : BitVec 32 := Scalar.addi v385 v386
  v387.toNat
def k0_dev19 (d0 : Dev nD) : Nat :=
  let c0_i32_344 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_343 : BitVec 32 := 4#32
  let v425 : BitVec 32 := Scalar.muli v2 c4_i32_343
  let v426 : BitVec 32 := Scalar.addi c0_i32_344 v425
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_345 : BitVec 32 := 2#32
  let v427 : BitVec 32 := Scalar.muli v5 c2_i32_345
  let v428 : BitVec 32 := Scalar.addi v426 v427
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_346 : BitVec 32 := 1#32
  let v429 : BitVec 32 := Scalar.muli v10 c1_i32_346
  let v430 : BitVec 32 := Scalar.addi v428 v429
  v430.toNat
def k0_dev20 (d0 : Dev nD) : Nat :=
  let c0_i32_355 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_354 : BitVec 32 := 4#32
  let v439 : BitVec 32 := Scalar.muli v2 c4_i32_354
  let v440 : BitVec 32 := Scalar.addi c0_i32_355 v439
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_356 : BitVec 32 := 2#32
  let v441 : BitVec 32 := Scalar.muli v11 c2_i32_356
  let v442 : BitVec 32 := Scalar.addi v440 v441
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_357 : BitVec 32 := 1#32
  let v443 : BitVec 32 := Scalar.muli v8 c1_i32_357
  let v444 : BitVec 32 := Scalar.addi v442 v443
  v444.toNat
def k0_dev21 (d0 : Dev nD) : Nat :=
  let c0_i32_395 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_394 : BitVec 32 := 4#32
  let v482 : BitVec 32 := Scalar.muli v2 c4_i32_394
  let v483 : BitVec 32 := Scalar.addi c0_i32_395 v482
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_396 : BitVec 32 := 2#32
  let v484 : BitVec 32 := Scalar.muli v5 c2_i32_396
  let v485 : BitVec 32 := Scalar.addi v483 v484
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_397 : BitVec 32 := 1#32
  let v486 : BitVec 32 := Scalar.muli v10 c1_i32_397
  let v487 : BitVec 32 := Scalar.addi v485 v486
  v487.toNat
def k0_dev22 (d0 : Dev nD) : Nat :=
  let c0_i32_406 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_405 : BitVec 32 := 4#32
  let v496 : BitVec 32 := Scalar.muli v2 c4_i32_405
  let v497 : BitVec 32 := Scalar.addi c0_i32_406 v496
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_407 : BitVec 32 := 2#32
  let v498 : BitVec 32 := Scalar.muli v11 c2_i32_407
  let v499 : BitVec 32 := Scalar.addi v497 v498
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_408 : BitVec 32 := 1#32
  let v500 : BitVec 32 := Scalar.muli v8 c1_i32_408
  let v501 : BitVec 32 := Scalar.addi v499 v500
  v501.toNat
def k0_dev23 (d0 : Dev nD) : Nat :=
  let c0_i32_446 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_445 : BitVec 32 := 4#32
  let v539 : BitVec 32 := Scalar.muli v2 c4_i32_445
  let v540 : BitVec 32 := Scalar.addi c0_i32_446 v539
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_447 : BitVec 32 := 2#32
  let v541 : BitVec 32 := Scalar.muli v5 c2_i32_447
  let v542 : BitVec 32 := Scalar.addi v540 v541
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_448 : BitVec 32 := 1#32
  let v543 : BitVec 32 := Scalar.muli v10 c1_i32_448
  let v544 : BitVec 32 := Scalar.addi v542 v543
  v544.toNat
def k0_dev24 (d0 : Dev nD) : Nat :=
  let c0_i32_457 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_456 : BitVec 32 := 4#32
  let v553 : BitVec 32 := Scalar.muli v2 c4_i32_456
  let v554 : BitVec 32 := Scalar.addi c0_i32_457 v553
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_458 : BitVec 32 := 2#32
  let v555 : BitVec 32 := Scalar.muli v11 c2_i32_458
  let v556 : BitVec 32 := Scalar.addi v554 v555
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_459 : BitVec 32 := 1#32
  let v557 : BitVec 32 := Scalar.muli v8 c1_i32_459
  let v558 : BitVec 32 := Scalar.addi v556 v557
  v558.toNat
def k0_dev25 (d0 : Dev nD) : Nat :=
  let c0_i32_497 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_496 : BitVec 32 := 4#32
  let v596 : BitVec 32 := Scalar.muli v2 c4_i32_496
  let v597 : BitVec 32 := Scalar.addi c0_i32_497 v596
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_498 : BitVec 32 := 2#32
  let v598 : BitVec 32 := Scalar.muli v5 c2_i32_498
  let v599 : BitVec 32 := Scalar.addi v597 v598
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_499 : BitVec 32 := 1#32
  let v600 : BitVec 32 := Scalar.muli v10 c1_i32_499
  let v601 : BitVec 32 := Scalar.addi v599 v600
  v601.toNat
def k0_dev26 (d0 : Dev nD) : Nat :=
  let c0_i32_508 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_507 : BitVec 32 := 4#32
  let v610 : BitVec 32 := Scalar.muli v2 c4_i32_507
  let v611 : BitVec 32 := Scalar.addi c0_i32_508 v610
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_509 : BitVec 32 := 2#32
  let v612 : BitVec 32 := Scalar.muli v11 c2_i32_509
  let v613 : BitVec 32 := Scalar.addi v611 v612
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_510 : BitVec 32 := 1#32
  let v614 : BitVec 32 := Scalar.muli v8 c1_i32_510
  let v615 : BitVec 32 := Scalar.addi v613 v614
  v615.toNat
def k0_dev27 (d0 : Dev nD) : Nat :=
  let c0_i32_548 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_547 : BitVec 32 := 4#32
  let v653 : BitVec 32 := Scalar.muli v2 c4_i32_547
  let v654 : BitVec 32 := Scalar.addi c0_i32_548 v653
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_549 : BitVec 32 := 2#32
  let v655 : BitVec 32 := Scalar.muli v5 c2_i32_549
  let v656 : BitVec 32 := Scalar.addi v654 v655
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_550 : BitVec 32 := 1#32
  let v657 : BitVec 32 := Scalar.muli v10 c1_i32_550
  let v658 : BitVec 32 := Scalar.addi v656 v657
  v658.toNat
def k0_dev28 (d0 : Dev nD) : Nat :=
  let c0_i32_559 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_558 : BitVec 32 := 4#32
  let v667 : BitVec 32 := Scalar.muli v2 c4_i32_558
  let v668 : BitVec 32 := Scalar.addi c0_i32_559 v667
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_560 : BitVec 32 := 2#32
  let v669 : BitVec 32 := Scalar.muli v11 c2_i32_560
  let v670 : BitVec 32 := Scalar.addi v668 v669
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_561 : BitVec 32 := 1#32
  let v671 : BitVec 32 := Scalar.muli v8 c1_i32_561
  let v672 : BitVec 32 := Scalar.addi v670 v671
  v672.toNat
def k0_dev29 (d0 : Dev nD) : Nat :=
  let c0_i32_599 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_598 : BitVec 32 := 4#32
  let v710 : BitVec 32 := Scalar.muli v2 c4_i32_598
  let v711 : BitVec 32 := Scalar.addi c0_i32_599 v710
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_600 : BitVec 32 := 2#32
  let v712 : BitVec 32 := Scalar.muli v5 c2_i32_600
  let v713 : BitVec 32 := Scalar.addi v711 v712
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_601 : BitVec 32 := 1#32
  let v714 : BitVec 32 := Scalar.muli v10 c1_i32_601
  let v715 : BitVec 32 := Scalar.addi v713 v714
  v715.toNat
def k0_dev30 (d0 : Dev nD) : Nat :=
  let c0_i32_610 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_609 : BitVec 32 := 4#32
  let v724 : BitVec 32 := Scalar.muli v2 c4_i32_609
  let v725 : BitVec 32 := Scalar.addi c0_i32_610 v724
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_611 : BitVec 32 := 2#32
  let v726 : BitVec 32 := Scalar.muli v11 c2_i32_611
  let v727 : BitVec 32 := Scalar.addi v725 v726
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_612 : BitVec 32 := 1#32
  let v728 : BitVec 32 := Scalar.muli v8 c1_i32_612
  let v729 : BitVec 32 := Scalar.addi v727 v728
  v729.toNat
def k0_off4 (d0 : Dev nD) (c0_i32_617 : BitVec 32) : Fin 2 → Nat :=
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_7 v5
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let v16 : BitVec 32 := Scalar.addi v14 v15
  let c8192_i32_616 : BitVec 32 := 8192#32
  let v736 : BitVec 32 := Scalar.muli v16 c8192_i32_616
  let v737 : BitVec 32 := Scalar.addi v736 c0_i32_617
  let c0_i32_624 : BitVec 32 := 0#32
  ![v737.toNat, 0]
def k0_off5 (d0 : Dev nD) (c0_i32_628 : BitVec 32) : Fin 2 → Nat :=
  let c2_i32_10 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c8192_i32_627 : BitVec 32 := 8192#32
  let v748 : BitVec 32 := Scalar.muli v19 c8192_i32_627
  let v749 : BitVec 32 := Scalar.addi v748 c0_i32_628
  let c0_i32_635 : BitVec 32 := 0#32
  ![v749.toNat, 0]
def k0_dev31 (d0 : Dev nD) : Nat :=
  let c0_i32_645 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_644 : BitVec 32 := 4#32
  let v764 : BitVec 32 := Scalar.muli v2 c4_i32_644
  let v765 : BitVec 32 := Scalar.addi c0_i32_645 v764
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_646 : BitVec 32 := 2#32
  let v766 : BitVec 32 := Scalar.muli v5 c2_i32_646
  let v767 : BitVec 32 := Scalar.addi v765 v766
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_647 : BitVec 32 := 1#32
  let v768 : BitVec 32 := Scalar.muli v10 c1_i32_647
  let v769 : BitVec 32 := Scalar.addi v767 v768
  v769.toNat
def k0_dev32 (d0 : Dev nD) : Nat :=
  let c0_i32_679 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_678 : BitVec 32 := 4#32
  let v804 : BitVec 32 := Scalar.muli v2 c4_i32_678
  let v805 : BitVec 32 := Scalar.addi c0_i32_679 v804
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_680 : BitVec 32 := 2#32
  let v806 : BitVec 32 := Scalar.muli v5 c2_i32_680
  let v807 : BitVec 32 := Scalar.addi v805 v806
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_681 : BitVec 32 := 1#32
  let v808 : BitVec 32 := Scalar.muli v10 c1_i32_681
  let v809 : BitVec 32 := Scalar.addi v807 v808
  v809.toNat
def k0_off6 (d0 : Dev nD) : Fin 2 → Nat :=
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_7 v5
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let v16 : BitVec 32 := Scalar.addi v14 v15
  let c8192_i32_696 : BitVec 32 := 8192#32
  let v830 : BitVec 32 := Scalar.muli v16 c8192_i32_696
  let c2736_i32_697 : BitVec 32 := 2736#32
  let v831 : BitVec 32 := Scalar.addi v830 c2736_i32_697
  let c0_i32_704 : BitVec 32 := 0#32
  ![v831.toNat, 0]
def k0_dev33 (d0 : Dev nD) : Nat :=
  let c0_i32_701 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_700 : BitVec 32 := 4#32
  let v832 : BitVec 32 := Scalar.muli v2 c4_i32_700
  let v833 : BitVec 32 := Scalar.addi c0_i32_701 v832
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_702 : BitVec 32 := 2#32
  let v834 : BitVec 32 := Scalar.muli v11 c2_i32_702
  let v835 : BitVec 32 := Scalar.addi v833 v834
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_703 : BitVec 32 := 1#32
  let v836 : BitVec 32 := Scalar.muli v8 c1_i32_703
  let v837 : BitVec 32 := Scalar.addi v835 v836
  v837.toNat
def k0_off7 (d0 : Dev nD) : Fin 2 → Nat :=
  let c2_i32_10 : BitVec 32 := 2#32
  let c1_i32_9 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_9 v5
  let v18 : BitVec 32 := Scalar.muli c2_i32_10 v17
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v19 : BitVec 32 := Scalar.addi v18 v8
  let c8192_i32_719 : BitVec 32 := 8192#32
  let v858 : BitVec 32 := Scalar.muli v19 c8192_i32_719
  let c2048_i32_720 : BitVec 32 := 2048#32
  let v859 : BitVec 32 := Scalar.addi v858 c2048_i32_720
  let c0_i32_727 : BitVec 32 := 0#32
  ![v859.toNat, 0]
def k0_dev34 (d0 : Dev nD) : Nat :=
  let c0_i32_724 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_723 : BitVec 32 := 4#32
  let v860 : BitVec 32 := Scalar.muli v2 c4_i32_723
  let v861 : BitVec 32 := Scalar.addi c0_i32_724 v860
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_725 : BitVec 32 := 2#32
  let v862 : BitVec 32 := Scalar.muli v5 c2_i32_725
  let v863 : BitVec 32 := Scalar.addi v861 v862
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_726 : BitVec 32 := 1#32
  let v864 : BitVec 32 := Scalar.muli v10 c1_i32_726
  let v865 : BitVec 32 := Scalar.addi v863 v864
  v865.toNat
def k0_dev35 (d0 : Dev nD) : Nat :=
  let c0_i32_747 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_746 : BitVec 32 := 4#32
  let v888 : BitVec 32 := Scalar.muli v2 c4_i32_746
  let v889 : BitVec 32 := Scalar.addi c0_i32_747 v888
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_748 : BitVec 32 := 2#32
  let v890 : BitVec 32 := Scalar.muli v11 c2_i32_748
  let v891 : BitVec 32 := Scalar.addi v889 v890
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_749 : BitVec 32 := 1#32
  let v892 : BitVec 32 := Scalar.muli v8 c1_i32_749
  let v893 : BitVec 32 := Scalar.addi v891 v892
  v893.toNat
def k0_dev36 (d0 : Dev nD) : Nat :=
  let c0_i32_781 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_780 : BitVec 32 := 4#32
  let v928 : BitVec 32 := Scalar.muli v2 c4_i32_780
  let v929 : BitVec 32 := Scalar.addi c0_i32_781 v928
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_782 : BitVec 32 := 2#32
  let v930 : BitVec 32 := Scalar.muli v11 c2_i32_782
  let v931 : BitVec 32 := Scalar.addi v929 v930
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_783 : BitVec 32 := 1#32
  let v932 : BitVec 32 := Scalar.muli v8 c1_i32_783
  let v933 : BitVec 32 := Scalar.addi v931 v932
  v933.toNat
def k0_off8 (d0 : Dev nD) : Fin 2 → Nat :=
  let c2_i32_7 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.muli c2_i32_7 v5
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let v16 : BitVec 32 := Scalar.addi v14 v15
  let c8192_i32_810 : BitVec 32 := 8192#32
  let v966 : BitVec 32 := Scalar.muli v16 c8192_i32_810
  let c5120_i32_811 : BitVec 32 := 5120#32
  let v967 : BitVec 32 := Scalar.addi v966 c5120_i32_811
  let c0_i32_818 : BitVec 32 := 0#32
  ![v967.toNat, 0]
def k0_dev37 (d0 : Dev nD) : Nat :=
  let c0_i32_815 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_814 : BitVec 32 := 4#32
  let v968 : BitVec 32 := Scalar.muli v2 c4_i32_814
  let v969 : BitVec 32 := Scalar.addi c0_i32_815 v968
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_816 : BitVec 32 := 2#32
  let v970 : BitVec 32 := Scalar.muli v11 c2_i32_816
  let v971 : BitVec 32 := Scalar.addi v969 v970
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_817 : BitVec 32 := 1#32
  let v972 : BitVec 32 := Scalar.muli v8 c1_i32_817
  let v973 : BitVec 32 := Scalar.addi v971 v972
  v973.toNat
def k0_off9 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c8192_i32_988 : BitVec 32 := 8192#32
  let v1157 : BitVec 32 := Scalar.muli v23 c8192_i32_988
  let c2048_i32_989 : BitVec 32 := 2048#32
  let v1158 : BitVec 32 := Scalar.addi v1157 c2048_i32_989
  let c0_i32_996 : BitVec 32 := 0#32
  ![v1158.toNat, 0]
def k0_off10 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c8192_i32_1000 : BitVec 32 := 8192#32
  let v1171 : BitVec 32 := Scalar.muli v23 c8192_i32_1000
  let c2736_i32_1001 : BitVec 32 := 2736#32
  let v1172 : BitVec 32 := Scalar.addi v1171 c2736_i32_1001
  let c0_i32_1008 : BitVec 32 := 0#32
  ![v1172.toNat, 0]
def k0_off11 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c8192_i32_1036 : BitVec 32 := 8192#32
  let v1213 : BitVec 32 := Scalar.muli v23 c8192_i32_1036
  let c5120_i32_1037 : BitVec 32 := 5120#32
  let v1214 : BitVec 32 := Scalar.addi v1213 c5120_i32_1037
  let c0_i32_1044 : BitVec 32 := 0#32
  ![v1214.toNat, 0]
-- ==== ReferenceIdeal.lean ====
abbrev S65536x1024 : Shape := ⟨2, ![65536, 1024]⟩
abbrev S2x32768x1024 : Shape := ⟨3, ![2, 32768, 1024]⟩
abbrev S_ : Shape := ⟨0, ![]⟩
abbrev S32768x1024 : Shape := ⟨2, ![32768, 1024]⟩

abbrev nBuf : Space → Nat
  | .hbm => 5
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x32768x1024, .f32⟩
  | .hbm, ⟨2, _⟩ => ⟨S_, .f32⟩
  | .hbm, ⟨3, _⟩ => ⟨S32768x1024, .f32⟩
  | .hbm, ⟨4, _⟩ => ⟨S32768x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Prog.lean ====
/-
# The kernel's text, folded

The printed body of the kernel is one straight line of some four hundred operations. This module writes the
same line with its repetitions folded: one definition per kind of step, each over the rows it works on and the
semaphores it uses, and the body as those steps at each chunk. The last theorem states that the printed body
IS the folded one.

Every step takes the program that follows it as its last argument.
-/
module

public import proofs.«01_k».proof.Proof.Gen.KernelIdeal
public import proofs.«01_k».proof.Proof.Gen.KernelIdeal.Points
public import Idealize.ShloMosaic.Lib.Tactic

@[expose] public section

noncomputable section

namespace Cert.AllSum

open Cert.KernelIdeal Cert.KernelIdeal.Gen
open Idealize.ShloMosaic Idealize.ShloMosaic.TcCoe
open Idealize.SL.Sem

variable {F : FTy → Type} [FloatOps F]

/-! ## Shapes, buffers, rows -/

/-- The shape of `n` rows of 1024 lanes. -/
abbrev Sn (n : ℕ) : Shape := ⟨2, ![n, 1024]⟩

/-- The device's block of the argument. -/
abbrev xM : Memref sig .tc .hbm (Sn 32768) .f32 := Memref.whole main_arg0
/-- The device's copy of the result. -/
abbrev oM : Memref sig .tc .hbm (Sn 32768) .bf16 := Memref.whole main_v1
/-- The rows a device casts, sends to its mirror and then sums. -/
abbrev sM : Memref sig .tc .vmem (Sn 10912) .bf16 := Memref.whole cc0_scratch0
/-- The rows a device gets from its mirror. -/
abbrev rM : Memref sig .tc .vmem (Sn 10912) .bf16 := Memref.whole cc0_scratch1
/-- The staging buffer of the argument's rows. -/
abbrev vM : Memref sig .tc .vmem (Sn 1024) .f32 := Memref.whole cc0_scratch2

/-- `n` consecutive rows of an array of `N` rows, with the facts the operations ask of a slice of 16-bit values. -/
structure Rows (N n : ℕ) where
  /-- The offset of the slice: its first row, and lane 0. -/
  off : Fin 2 → ℕ
  inb : ∀ a, off a + (Sn n).size a ≤ (Sn N).size a
  words : (Rect.unit (s := Sn N) off (Sn n).size inb).WholeWords (EltTy.packing .bf16)

/-- The slice as a rectangle. -/
abbrev Rows.rect {N n : ℕ} (p : Rows N n) : Rect (Sn N) := Rect.unit (s := Sn N) p.off (Sn n).size p.inb

/-- The rows of the argument. -/
abbrev xRows {n : ℕ} (p : Rows 32768 n) : Memref sig .tc .hbm (Sn n) .f32 := xM.slice p.rect (fun _ => rfl)
/-- The rows of the result. -/
abbrev oRows {n : ℕ} (p : Rows 32768 n) : Memref sig .tc .hbm (Sn n) .bf16 := oM.slice p.rect (fun _ => rfl)
/-- The rows of the send buffer. -/
abbrev sRows {n : ℕ} (p : Rows 10912 n) : Memref sig .tc .vmem (Sn n) .bf16 := sM.slice p.rect (fun _ => rfl)
/-- The rows of the receive buffer. -/
abbrev rRows {n : ℕ} (p : Rows 10912 n) : Memref sig .tc .vmem (Sn n) .bf16 := rM.slice p.rect (fun _ => rfl)

/-- Rows of 16-bit values fill whole words when the first row and the number of rows are even. -/
theorem packed_of_even {N n : ℕ} (off : Fin 2 → ℕ) (inb) (h0 : 2 ∣ off 0) (hn : 2 ∣ n) :
    (Rect.unit (s := Sn N) off (Sn n).size inb).PackedRows (EltTy.packing .bf16) :=
  .inr ⟨le_refl _, rfl, .inl ⟨h0, hn⟩⟩

/-- The chunk's rows of the send and of the receive buffer: chunk `i` starts at row `1024 * i`. -/
def chunk (i : Fin 11) (n : ℕ) (h : 1024 * i.val + n ≤ 10912) (hn : 2 ∣ n) : Rows 10912 n where
  off := ![1024 * i.val, 0]
  inb := fun a => by fin_cases a; exacts [h, le_refl _]
  words := .inl (packed_of_even _ _ (Dvd.dvd.mul_right ⟨512, rfl⟩ _) hn)

/-- The chunk's rows are whole words of the send buffer. -/
theorem chunk_packed (i : Fin 11) (n : ℕ) (h : 1024 * i.val + n ≤ 10912) (hn : 2 ∣ n) :
    (chunk i n h hn).rect.PackedRows (EltTy.packing .bf16) :=
  packed_of_even _ _ (Dvd.dvd.mul_right ⟨512, rfl⟩ _) hn

theorem numel_pos {n : ℕ} (hn : 0 < n) : 0 < (Sn n).numel := by
  rw [Shape.numel, Fin.prod_univ_two]; exact Nat.mul_pos hn (show 0 < 1024 by decide)

/-! ## The devices a device talks to -/

/-- The device at the other end of the first mesh axis. -/
def mirror (d : Dev nD) : Dev nD := ⟨k0_dev1 d, k0_dev1_lt d⟩
/-- The device at the other end of the third mesh axis. -/
def znbr (d : Dev nD) : Dev nD := ⟨k0_dev2 d, k0_dev2_lt d⟩
/-- The device at the other end of the second mesh axis. -/
def ynbr (d : Dev nD) : Dev nD := ⟨k0_dev3 d, k0_dev3_lt d⟩

/-! ## The semaphores, by the number of the cell -/

/-- The barrier semaphore of the mesh. -/
abbrev barS : Sem sig := (SemArray.scalar (sig.barrier 0 rfl) : Sems sig S_).sem
/-- The cell of the copies into the staging buffer. -/
abbrev loadS : DmaSem sig := (⟨0, by decide⟩ : Fin 80)
/-- The cell of the local copy of chunk `i` into the result. -/
abbrev outS (i : Fin 11) : DmaSem sig := (⟨1 + i.val, by omega⟩ : Fin 80)
/-- Chunk `i` to the mirror: the sender's cell. -/
abbrev xsS (i : Fin 11) : DmaSem sig := (⟨12 + i.val, by omega⟩ : Fin 80)
/-- Chunk `i` from the mirror: the receiver's cell. -/
abbrev xrS (i : Fin 11) : DmaSem sig := (⟨23 + i.val, by omega⟩ : Fin 80)
/-- Summed chunk `k` to the third axis's neighbour: the sender's cell. -/
abbrev zsS (k : Fin 8) : DmaSem sig := (⟨34 + k.val, by omega⟩ : Fin 80)
/-- Summed chunk `k` from the third axis's neighbour: the receiver's cell. -/
abbrev zrS (k : Fin 8) : DmaSem sig := (⟨42 + k.val, by omega⟩ : Fin 80)
/-- Summed chunk `k` to the second axis's neighbour: the sender's cell. -/
abbrev ysS (k : Fin 8) : DmaSem sig := (⟨50 + k.val, by omega⟩ : Fin 80)
/-- Summed chunk `k` from the second axis's neighbour: the receiver's cell. -/
abbrev yrS (k : Fin 8) : DmaSem sig := (⟨58 + k.val, by omega⟩ : Fin 80)
/-- Forwarded piece `j` along the third axis: the sender's cell. -/
abbrev zfsS (j : Fin 3) : DmaSem sig := (⟨66 + j.val, by omega⟩ : Fin 80)
/-- Forwarded piece `j` along the third axis: the receiver's cell. -/
abbrev zfrS (j : Fin 3) : DmaSem sig := (⟨69 + j.val, by omega⟩ : Fin 80)
/-- Forwarded piece `j` along the second axis: the sender's cell. -/
abbrev yfsS (j : Fin 4) : DmaSem sig := (⟨72 + j.val, by omega⟩ : Fin 80)
/-- Forwarded piece `j` along the second axis: the receiver's cell. -/
abbrev yfrS (j : Fin 4) : DmaSem sig := (⟨76 + j.val, by omega⟩ : Fin 80)

/-! ## The rows of the argument and of the result -/

/-- Chunk `k` of the device's own quarter. -/
abbrev ownRows (d : Dev nD) (k : Fin 8) : Rows 32768 1024 :=
  ⟨k0_off1 d (BitVec.ofNat 32 (1024 * k.val)), k0_off1_inb d k, k0_off1_wordsbf16 d k⟩
/-- Chunk `k` of the quarter of the third axis's neighbour. -/
abbrev zRows (d : Dev nD) (k : Fin 8) : Rows 32768 1024 :=
  ⟨k0_off4 d (BitVec.ofNat 32 (1024 * k.val)), k0_off4_inb d k, k0_off4_wordsbf16 d k⟩
/-- Chunk `k` of the quarter of the second axis's neighbour. -/
abbrev yRows (d : Dev nD) (k : Fin 8) : Rows 32768 1024 :=
  ⟨k0_off5 d (BitVec.ofNat 32 (1024 * k.val)), k0_off5_inb d k, k0_off5_wordsbf16 d k⟩
/-- A thousand and twenty-four rows of the diagonal quarter. -/
abbrev diagRows (d : Dev nD) (r : Fin 6) : Rows 32768 1024 :=
  ⟨k0_off2 d (k0_off2_at r), k0_off2_inb d r, k0_off2_wordsbf16 d r⟩
/-- The last 672 rows of the diagonal quarter. -/
abbrev selfRows (d : Dev nD) : Rows 32768 672 := ⟨k0_off3 d, k0_off3_inb d, k0_off3_wordsbf16 d⟩
/-- The short pieces that are forwarded, in the quarters of the neighbours they come from. -/
abbrev fwdZ2 (d : Dev nD) : Rows 32768 688 := ⟨k0_off7 d, k0_off7_inb d, k0_off7_wordsbf16 d⟩
abbrev fwdY0 (d : Dev nD) : Rows 32768 336 := ⟨k0_off6 d, k0_off6_inb d, k0_off6_wordsbf16 d⟩
abbrev fwdY3 (d : Dev nD) : Rows 32768 352 := ⟨k0_off8 d, k0_off8_inb d, k0_off8_wordsbf16 d⟩
/-- The short pieces that arrive forwarded, in the diagonal quarter. -/
abbrev arrZ2 (d : Dev nD) : Rows 32768 688 := ⟨k0_off9 d, k0_off9_inb d, k0_off9_wordsbf16 d⟩
abbrev arrY0 (d : Dev nD) : Rows 32768 336 := ⟨k0_off10 d, k0_off10_inb d, k0_off10_wordsbf16 d⟩
abbrev arrY3 (d : Dev nD) : Rows 32768 352 := ⟨k0_off11 d, k0_off11_inb d, k0_off11_wordsbf16 d⟩

/-! ## The values stored -/

/-- The cast the kernel applies to staged rows. -/
def castV {n : ℕ} (v : Vec F (Sn n) .f32) : FVec F (Sn n) .bf16 :=
  shapeCast (Sn n) (truncf .bf16 v bitsLt_bf16_f32) rfl
/-- The sum the kernel forms of two chunks. -/
def sumV {n : ℕ} (v w : Vec F (Sn n) .bf16) : FVec F (Sn n) .bf16 :=
  shapeCast (Sn n) (truncf .bf16 (addf (extf .f32 v bitsLt_bf16_f32) (extf .f32 w bitsLt_bf16_f32)) bitsLt_bf16_f32) rfl

/-! ## The steps -/

/-- A program of the kernel. -/
abbrev P (F : FTy → Type) [FloatOps F] : Type 1 := Prog (TpuEff nD τ sig (Elt F) Λ₀ .tc) PUnit

/-- Do `f` at `0`, `1`, …, `n - 1`, and then go on. -/
def steps {α : Type 1} : (n : ℕ) → (Fin n → α → α) → α → α
  | 0, _, k => k
  | n + 1, f, k => f 0 (steps n (fun i => f i.succ) k)

/-- Copy rows of the argument into the staging buffer, wait for them, and store their cast as a chunk of the send buffer. -/
def load {n : ℕ} (hn : 0 < n) (h1024 : n ≤ 1024) (v : Memref sig .tc .vmem (Sn n) .f32) (hv : v.view.WordExact)
    (p : Rows 32768 n) (b : Rows 10912 n) (hb : b.rect.PackedRows (EltTy.packing .bf16)) (k : P F) : P F :=
  .op (.enqueueDma (xRows p) (.here v) (.dma loadS) (View.wordExact_bits rfl) hv ⟨Or.inl rfl, trivial⟩) fun _ =>
  .op (.waitDma2 loadS (xRows p) v (View.wordExact_bits rfl) hv) fun _ =>
  .op (.load vM (Rect.unit (s := Sn 1024) ![0, 0] (Sn n).size
      (fun a => by fin_cases a; exacts [by simpa using h1024, le_refl _])).toLoadRect (View.loadsAt_vmem (numel_pos hn))) fun w =>
  .op (.load sM b.rect.toLoadRect (View.loadsAt_vmem (numel_pos hn))) fun _ =>
  .op (.store sM b.rect (castV w) Finset.univ (View.stores_vmem (numel_pos hn)
      ((Memref.isWhole_whole cc0_scratch0).storeExact_slice rfl _ hb) (fun _ => rfl)) (.inl rfl)) fun _ => k

/-- Start the copy of a chunk of the send buffer into the same rows of the mirror's receive buffer. -/
def sendX (d : Dev nD) (i : Fin 11) {n : ℕ} (b : Rows 10912 n) (k : P F) : P F :=
  .op (.enqueueDma (sRows b) (.remote (Dev.tc (mirror d)) (rRows b) (.dma (xsS i))) (.dma (xrS i))
    ((Memref.isWhole_whole cc0_scratch0).wordExact_slice rfl _ b.words)
    ((Memref.isWhole_whole cc0_scratch1).wordExact_slice rfl _ b.words) ⟨⟨rfl, Or.inl rfl⟩, trivial⟩) fun _ => k

/-- Wait until a chunk has come from the mirror and the own chunk is sent, and replace the own chunk by the sum of both. -/
def addX (i : Fin 11) {n : ℕ} (hn : 0 < n) (b : Rows 10912 n) (hb : b.rect.PackedRows (EltTy.packing .bf16)) (k : P F) : P F :=
  .op (.waitDma2 (xrS i) (sRows b) (rRows b) ((Memref.isWhole_whole cc0_scratch0).wordExact_slice rfl _ b.words)
    ((Memref.isWhole_whole cc0_scratch1).wordExact_slice rfl _ b.words)) fun _ =>
  .op (.waitDma2 (xsS i) (rRows b) (sRows b) ((Memref.isWhole_whole cc0_scratch1).wordExact_slice rfl _ b.words)
    ((Memref.isWhole_whole cc0_scratch0).wordExact_slice rfl _ b.words)) fun _ =>
  .op (.load sM b.rect.toLoadRect (View.loadsAt_vmem (numel_pos hn))) fun v =>
  .op (.load rM b.rect.toLoadRect (View.loadsAt_vmem (numel_pos hn))) fun w =>
  .op (.load sM b.rect.toLoadRect (View.loadsAt_vmem (numel_pos hn))) fun _ =>
  .op (.store sM b.rect (sumV v w) Finset.univ (View.stores_vmem (numel_pos hn)
      ((Memref.isWhole_whole cc0_scratch0).storeExact_slice rfl _ hb) (fun _ => rfl)) (.inl rfl)) fun _ => k

/-- Start the local copy of a chunk of the send buffer into rows of the result. -/
def copyOut (s : DmaSem sig) {n : ℕ} (b : Rows 10912 n) (p : Rows 32768 n) (k : P F) : P F :=
  .op (.enqueueDma (sRows b) (.here (oRows p)) (.dma s)
    ((Memref.isWhole_whole cc0_scratch0).wordExact_slice rfl _ b.words)
    ((Memref.isWhole_whole main_v1).wordExact_slice rfl _ p.words) ⟨Or.inl rfl, trivial⟩) fun _ => k

/-- Start the copy of a chunk of the send buffer into rows of another device's result. -/
def sendSum (e : Dev nD) (s r : DmaSem sig) {n : ℕ} (b : Rows 10912 n) (p : Rows 32768 n) (k : P F) : P F :=
  .op (.enqueueDma (sRows b) (.remote (Dev.tc e) (oRows p) (.dma s)) (.dma r)
    ((Memref.isWhole_whole cc0_scratch0).wordExact_slice rfl _ b.words)
    ((Memref.isWhole_whole main_v1).wordExact_slice rfl _ p.words) ⟨⟨rfl, Or.inl rfl⟩, trivial⟩) fun _ => k

/-- Start the copy of rows of the result into the same rows of another device's result. -/
def forward (e : Dev nD) (s r : DmaSem sig) {n : ℕ} (p : Rows 32768 n) (k : P F) : P F :=
  .op (.enqueueDma (oRows p) (.remote (Dev.tc e) (oRows p) (.dma s)) (.dma r)
    ((Memref.isWhole_whole main_v1).wordExact_slice rfl _ p.words)
    ((Memref.isWhole_whole main_v1).wordExact_slice rfl _ p.words) ⟨⟨rfl, Or.inl rfl⟩, trivial⟩) fun _ => k

/-- Wait for the landing of a chunk sent from the send buffer into rows of the result. -/
def waitIn (s : DmaSem sig) {n : ℕ} (b : Rows 10912 n) (p : Rows 32768 n) (k : P F) : P F :=
  .op (.waitDma2 s (sRows b) (oRows p) ((Memref.isWhole_whole cc0_scratch0).wordExact_slice rfl _ b.words)
    ((Memref.isWhole_whole main_v1).wordExact_slice rfl _ p.words)) fun _ => k

/-- Wait until a chunk of the send buffer has been sent. -/
def waitSent (s : DmaSem sig) {n : ℕ} (b : Rows 10912 n) (p : Rows 32768 n) (k : P F) : P F :=
  .op (.waitDma2 s (oRows p) (sRows b) ((Memref.isWhole_whole main_v1).wordExact_slice rfl _ p.words)
    ((Memref.isWhole_whole cc0_scratch0).wordExact_slice rfl _ b.words)) fun _ => k

/-- Wait for a copy between rows of the result. -/
def waitFwd (s : DmaSem sig) {n : ℕ} (p : Rows 32768 n) (k : P F) : P F :=
  .op (.waitDma2 s (oRows p) (oRows p) ((Memref.isWhole_whole main_v1).wordExact_slice rfl _ p.words)
    ((Memref.isWhole_whole main_v1).wordExact_slice rfl _ p.words)) fun _ => k

/-! ## The body -/

/-- Chunk `k` of the first eight. -/
abbrev chunk8 (k : Fin 8) : Rows 10912 1024 := chunk ⟨k.val, by omega⟩ 1024 (by have := k.isLt; simp only; omega) ⟨512, rfl⟩
/-- The ninth and the tenth chunk. -/
abbrev chunk2 (i : Fin 2) : Rows 10912 1024 := chunk ⟨8 + i.val, by omega⟩ 1024 (by have := i.isLt; simp only; omega) ⟨512, rfl⟩
/-- The last chunk, which is shorter. -/
abbrev chunkL : Rows 10912 672 := chunk 10 672 (by decide) ⟨336, rfl⟩

/-- The staging buffer as a slice of itself, `n` rows of it. -/
abbrev vRows (n : ℕ) (h : n ≤ 1024) : Memref sig .tc .vmem (Sn n) .f32 :=
  vM.slice (Rect.unit (s := Sn 1024) ![0, 0] (Sn n).size
    (fun a => by fin_cases a; exacts [by simpa using h, le_refl _])) (fun _ => rfl)

/-- Tell the three neighbours that the device is there, and wait for all three. -/
def meet (d : Dev nD) (k : P F) : P F :=
  .op (.semSignal (Dev.tc (mirror d)) barS 1) fun _ =>
  .op (.semSignal (Dev.tc (znbr d)) barS 1) fun _ =>
  .op (.semSignal (Dev.tc (ynbr d)) barS 1) fun _ =>
  .op (.semWait barS 3) fun _ => k

/-- One chunk of the device's quarter, cast and sent to the mirror. -/
def stage8 (d : Dev nD) (j : Fin 8) (k : P F) : P F :=
  load (by decide) (le_refl _) vM (Memref.isWhole_whole cc0_scratch2).wordExact (ownRows d j) (chunk8 j) (chunk_packed ..) <|
  sendX d ⟨j.val, by omega⟩ (chunk8 j) k
/-- One chunk of the device's rows of the diagonal quarter, cast and sent to the mirror. -/
def stage2 (d : Dev nD) (j : Fin 2) (k : P F) : P F :=
  load (by decide) (le_refl _) (vRows 1024 (le_refl _)) (View.wordExact_bits rfl) (diagRows d ⟨j.val, by omega⟩) (chunk2 j) (chunk_packed ..) <|
  sendX d ⟨8 + j.val, by omega⟩ (chunk2 j) k
/-- The last chunk, cast and sent to the mirror. -/
def stageL (d : Dev nD) (k : P F) : P F :=
  load (by decide) (by decide) (vRows 672 (by decide)) (View.wordExact_bits rfl) (selfRows d) chunkL (chunk_packed ..) <|
  sendX d 10 chunkL k

/-- One chunk of the device's quarter summed, and sent to the own result and to those of the two other neighbours. -/
def sum8 (d : Dev nD) (j : Fin 8) (k : P F) : P F :=
  addX ⟨j.val, by omega⟩ (by decide) (chunk8 j) (chunk_packed ..) <|
  copyOut (outS ⟨j.val, by omega⟩) (chunk8 j) (ownRows d j) <|
  sendSum (znbr d) (zsS j) (zrS j) (chunk8 j) (ownRows d j) <|
  sendSum (ynbr d) (ysS j) (yrS j) (chunk8 j) (ownRows d j) k

/-- Wait for chunk `j` of the third axis's neighbour, forward what is to be forwarded of it; the same for the second axis's. -/
def take (d : Dev nD) (j : Fin 8) (fz fy : P F → P F) (k : P F) : P F :=
  waitIn (zrS j) (chunk8 j) (zRows d j) <| fz <|
  waitIn (yrS j) (chunk8 j) (yRows d j) <| fy k

/-- One chunk of the diagonal quarter summed and copied to the own result. -/
def sum2 (d : Dev nD) (j : Fin 2) (k : P F) : P F :=
  addX ⟨8 + j.val, by omega⟩ (by decide) (chunk2 j) (chunk_packed ..) <|
  copyOut (outS ⟨8 + j.val, by omega⟩) (chunk2 j) (diagRows d ⟨j.val, by omega⟩) k
/-- The last chunk summed and copied to the own result. -/
def sumL (d : Dev nD) (k : P F) : P F :=
  addX 10 (by decide) chunkL (chunk_packed ..) <|
  copyOut (outS 10) chunkL (selfRows d) k

/-- Wait until the three copies of summed chunk `j` are done. -/
def done8 (d : Dev nD) (j : Fin 8) (k : P F) : P F :=
  waitSent (zsS j) (chunk8 j) (ownRows d j) <|
  waitSent (ysS j) (chunk8 j) (ownRows d j) <|
  waitIn (outS ⟨j.val, by omega⟩) (chunk8 j) (ownRows d j) k
/-- Wait until the copy of a chunk of the diagonal quarter is done. -/
def done2 (d : Dev nD) (j : Fin 2) (k : P F) : P F :=
  waitIn (outS ⟨8 + j.val, by omega⟩) (chunk2 j) (diagRows d ⟨j.val, by omega⟩) k

/-- The neighbours' chunks in turn, with the seven forwards between them. -/
def takes (d : Dev nD) (k : P F) : P F :=
  take d 0 id (forward (znbr d) (zfsS 0) (zfrS 0) (yRows d 0)) <|
  take d 1 id (forward (znbr d) (zfsS 1) (zfrS 1) (yRows d 1)) <|
  take d 2 (forward (ynbr d) (yfsS 0) (yfrS 0) (fwdY0 d)) (forward (znbr d) (zfsS 2) (zfrS 2) (fwdZ2 d)) <|
  take d 3 (forward (ynbr d) (yfsS 1) (yfrS 1) (zRows d 3)) id <|
  take d 4 (forward (ynbr d) (yfsS 2) (yfrS 2) (zRows d 4)) id <|
  take d 5 (forward (ynbr d) (yfsS 3) (yfrS 3) (fwdY3 d)) id <|
  take d 6 id id <|
  take d 7 id id k

/-- The rows that arrive forwarded. -/
def arrivals (d : Dev nD) (k : P F) : P F :=
  waitFwd (zfrS 0) (diagRows d 2) <| waitFwd (zfrS 1) (diagRows d 3) <| waitFwd (zfrS 2) (arrZ2 d) <|
  waitFwd (yfrS 0) (arrY0 d) <| waitFwd (yfrS 1) (diagRows d 4) <| waitFwd (yfrS 2) (diagRows d 5) <|
  waitFwd (yfrS 3) (arrY3 d) k

/-- The own forwards, waited for. -/
def departures (d : Dev nD) (k : P F) : P F :=
  waitFwd (zfsS 0) (yRows d 0) <| waitFwd (zfsS 1) (yRows d 1) <| waitFwd (zfsS 2) (fwdZ2 d) <|
  waitFwd (yfsS 0) (fwdY0 d) <| waitFwd (yfsS 1) (zRows d 3) <| waitFwd (yfsS 2) (zRows d 4) <|
  waitFwd (yfsS 3) (fwdY3 d) k

/-- The body on device `d`, after the device has asked for its number. -/
def main (d : Dev nD) : P F :=
  meet d <|
  steps 8 (stage8 d) <| steps 2 (stage2 d) <| stageL d <|
  steps 8 (sum8 d) <|
  takes d <|
  steps 2 (sum2 d) <| sumL d <|
  arrivals d <|
  steps 8 (done8 d) <| steps 2 (done2 d) <| waitIn (outS 10) chunkL (selfRows d) <|
  departures d <| .ret ⟨⟩

/-- The printed body is the folded one. -/
theorem body_eq (t : Fin cfg0.N) : bodyAt0 (F := F) t = .op .deviceId fun d => main d := by
  sl_kernel_rfl

end Cert.AllSum

end
-- ==== Proof.Rows.lean ====
/-
# Rows of a buffer

Every slice the kernel takes is a run of consecutive whole rows. This module states, once for every buffer:
which elements such a run has, that holding a run is holding its parts, and what a copy or a store into a run
leaves there.
-/
module

public import proofs.«01_k».proof.Proof.Prog
public import Idealize.ShloMosaic.Lib.Pipeline.Launch
public import Idealize.ShloMosaic.Lib.Pipeline.Kit
public import Idealize.ShloMosaic.Lib.Rounds

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

/-- The rounds' resources; a barrier cell has three duties, every other cell one. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Runs of rows -/

/-- The elements of rows `a` to `a + n - 1` of an array of `N` rows. -/
def rowsIn (N a n : ℕ) : Finset (Sn N).Idx := Finset.univ.filter fun i => a ≤ (i 0).val ∧ (i 0).val < a + n

theorem mem_rowsIn {N a n : ℕ} {i : (Sn N).Idx} : i ∈ rowsIn N a n ↔ a ≤ (i 0).val ∧ (i 0).val < a + n := by
  simp [rowsIn]

/-- All the rows are all the elements. -/
theorem rowsIn_all (N : ℕ) : rowsIn N 0 N = Finset.univ := by
  ext i; simp only [mem_rowsIn, Finset.mem_univ, iff_true, Nat.zero_le, true_and, Nat.zero_add]; exact (i 0).isLt

/-- A run is its first rows and the others. -/
theorem rowsIn_add (N a n m : ℕ) : rowsIn N a (n + m) = rowsIn N a n ∪ rowsIn N (a + n) m := by
  ext i; simp only [Finset.mem_union, mem_rowsIn]; omega

/-- Runs of which one ends before the other begins share nothing. -/
theorem rowsIn_disjoint {N a n b m : ℕ} (h : a + n ≤ b ∨ b + m ≤ a) : Disjoint (rowsIn N a n) (rowsIn N b m) := by
  rw [Finset.disjoint_left]; intro i hi hj; rw [mem_rowsIn] at hi hj; omega

/-- A run of `k` times `n` rows is `k` runs of `n` rows. -/
theorem rowsIn_mul (N a n k : ℕ) :
    rowsIn N a (n * k) = (Finset.univ : Finset (Fin k)).biUnion fun j => rowsIn N (a + n * j.val) n := by
  ext i
  simp only [mem_rowsIn, Finset.mem_biUnion, Finset.mem_univ, true_and]
  constructor
  · rintro ⟨h1, h2⟩
    have hn : 0 < n := Nat.pos_of_ne_zero fun h => by subst h; omega
    have hd := Nat.div_add_mod ((i 0).val - a) n
    have hm := Nat.mod_lt ((i 0).val - a) hn
    have hk : ((i 0).val - a) / n < k := Nat.div_lt_of_lt_mul (by omega)
    exact ⟨⟨_, hk⟩, by simp only; omega, by simp only; omega⟩
  · rintro ⟨j, h1, h2⟩
    have : n * (j.val + 1) ≤ n * k := Nat.mul_le_mul_left _ j.isLt
    rw [Nat.mul_add] at this
    omega

theorem rowsIn_mul_disjoint (N a n k : ℕ) :
    ∀ t ∈ (Finset.univ : Finset (Fin k)), ∀ t' ∈ (Finset.univ : Finset (Fin k)), t ≠ t' →
      Disjoint (rowsIn N (a + n * t.val) n) (rowsIn N (a + n * t'.val) n) := by
  intro t _ t' _ h
  apply rowsIn_disjoint
  rcases Nat.lt_or_gt_of_ne (fun e => h (Fin.ext e)) with h | h
  · left; have := Nat.mul_le_mul_left n h; rw [Nat.mul_succ] at this; omega
  · right; have := Nat.mul_le_mul_left n h; rw [Nat.mul_succ] at this; omega

/-! ## Holding runs -/

section Hold
variable {N : ℕ} {e : EltTy} {ℓ : Loc nD τ sig}

/-- The rows of a held run, in two parts: stated of any location whose elements are those of `N` rows. -/
theorem pts_union {S I J : Finset (Idx ℓ)} (hS : S = I ∪ J) (hd : Disjoint I J) (q : PosShare TreeShare) (f : Buf (Elt F) ℓ) :
    (ℓ ↦[S]{q} f : sProp 𝕄) = iprop((ℓ ↦[I]{q} f) ∗ ℓ ↦[J]{q} f) := by
  subst hS; exact Entails.antisymm (pointsTo_union hd).1 (pointsTo_union hd).2

end Hold

/-! ## The five buffers of a device -/

/-- The argument's rows, held. -/
def xPts (c : Dev nD) (q : PosShare TreeShare) (a n : ℕ) (f : (Sn 32768).Idx → Elt F .f32) : sProp 𝕄 :=
  ((c : Thread nD τ).loc main_arg0) ↦[rowsIn 32768 a n]{q} f
/-- The result's rows, held. -/
def oPts (c : Dev nD) (q : PosShare TreeShare) (a n : ℕ) (f : (Sn 32768).Idx → Elt F .bf16) : sProp 𝕄 :=
  ((c : Thread nD τ).loc main_v1) ↦[rowsIn 32768 a n]{q} f
/-- The send buffer's rows, held. -/
def sPts (c : Dev nD) (q : PosShare TreeShare) (a n : ℕ) (f : (Sn 10912).Idx → Elt F .bf16) : sProp 𝕄 :=
  ((c : Thread nD τ).loc cc0_scratch0) ↦[rowsIn 10912 a n]{q} f
/-- The receive buffer's rows, held. -/
def rPts (c : Dev nD) (q : PosShare TreeShare) (a n : ℕ) (f : (Sn 10912).Idx → Elt F .bf16) : sProp 𝕄 :=
  ((c : Thread nD τ).loc cc0_scratch1) ↦[rowsIn 10912 a n]{q} f
/-- The staging buffer's rows, held. -/
def vPts (c : Dev nD) (q : PosShare TreeShare) (a n : ℕ) (f : (Sn 1024).Idx → Elt F .f32) : sProp 𝕄 :=
  ((c : Thread nD τ).loc cc0_scratch2) ↦[rowsIn 1024 a n]{q} f

section Five
variable (c : Dev nD) (q : PosShare TreeShare) (a n m k : ℕ)

theorem xPts_add (f : (Sn 32768).Idx → Elt F .f32) :
    (xPts c q a (n + m) f : sProp 𝕄) = iprop(xPts c q a n f ∗ xPts c q (a + n) m f) := by
  unfold xPts
  exact pts_union (ℓ := (c : Thread nD τ).loc main_arg0) (S := rowsIn 32768 a (n + m)) (I := rowsIn 32768 a n) (J := rowsIn 32768 (a + n) m)
    (rowsIn_add 32768 a n m) (rowsIn_disjoint (.inl (Nat.le_refl _))) q f
theorem oPts_add (f : (Sn 32768).Idx → Elt F .bf16) :
    (oPts c q a (n + m) f : sProp 𝕄) = iprop(oPts c q a n f ∗ oPts c q (a + n) m f) := by
  unfold oPts
  exact pts_union (ℓ := (c : Thread nD τ).loc main_v1) (S := rowsIn 32768 a (n + m)) (I := rowsIn 32768 a n) (J := rowsIn 32768 (a + n) m)
    (rowsIn_add 32768 a n m) (rowsIn_disjoint (.inl (Nat.le_refl _))) q f
theorem sPts_add (f : (Sn 10912).Idx → Elt F .bf16) :
    (sPts c q a (n + m) f : sProp 𝕄) = iprop(sPts c q a n f ∗ sPts c q (a + n) m f) := by
  unfold sPts
  exact pts_union (ℓ := (c : Thread nD τ).loc cc0_scratch0) (S := rowsIn 10912 a (n + m)) (I := rowsIn 10912 a n) (J := rowsIn 10912 (a + n) m)
    (rowsIn_add 10912 a n m) (rowsIn_disjoint (.inl (Nat.le_refl _))) q f
theorem rPts_add (f : (Sn 10912).Idx → Elt F .bf16) :
    (rPts c q a (n + m) f : sProp 𝕄) = iprop(rPts c q a n f ∗ rPts c q (a + n) m f) := by
  unfold rPts
  exact pts_union (ℓ := (c : Thread nD τ).loc cc0_scratch1) (S := rowsIn 10912 a (n + m)) (I := rowsIn 10912 a n) (J := rowsIn 10912 (a + n) m)
    (rowsIn_add 10912 a n m) (rowsIn_disjoint (.inl (Nat.le_refl _))) q f
theorem vPts_add (f : (Sn 1024).Idx → Elt F .f32) :
    (vPts c q a (n + m) f : sProp 𝕄) = iprop(vPts c q a n f ∗ vPts c q (a + n) m f) := by
  unfold vPts
  exact pts_union (ℓ := (c : Thread nD τ).loc cc0_scratch2) (S := rowsIn 1024 a (n + m)) (I := rowsIn 1024 a n) (J := rowsIn 1024 (a + n) m)
    (rowsIn_add 1024 a n m) (rowsIn_disjoint (.inl (Nat.le_refl _))) q f

theorem xPts_mul (f : (Sn 32768).Idx → Elt F .f32) :
    (xPts c q a (n * k) f : sProp 𝕄) = bigSep Finset.univ fun j : Fin k => xPts c q (a + n * j.val) n f := by
  unfold xPts; rw [rowsIn_mul]; exact pointsTo_biUnion _ _ (rowsIn_mul_disjoint _ a n k)
theorem oPts_mul (f : (Sn 32768).Idx → Elt F .bf16) :
    (oPts c q a (n * k) f : sProp 𝕄) = bigSep Finset.univ fun j : Fin k => oPts c q (a + n * j.val) n f := by
  unfold oPts; rw [rowsIn_mul]; exact pointsTo_biUnion _ _ (rowsIn_mul_disjoint _ a n k)
theorem sPts_mul (f : (Sn 10912).Idx → Elt F .bf16) :
    (sPts c q a (n * k) f : sProp 𝕄) = bigSep Finset.univ fun j : Fin k => sPts c q (a + n * j.val) n f := by
  unfold sPts; rw [rowsIn_mul]; exact pointsTo_biUnion _ _ (rowsIn_mul_disjoint _ a n k)
theorem rPts_mul (f : (Sn 10912).Idx → Elt F .bf16) :
    (rPts c q a (n * k) f : sProp 𝕄) = bigSep Finset.univ fun j : Fin k => rPts c q (a + n * j.val) n f := by
  unfold rPts; rw [rowsIn_mul]; exact pointsTo_biUnion _ _ (rowsIn_mul_disjoint _ a n k)

end Five

/-! ## Slices as runs -/

section Slices
variable {N n : ℕ} (p : Rows N n)

theorem Rows.off_one : p.off 1 = 0 := by
  have h : p.off 1 + 1024 ≤ 1024 := p.inb 1
  omega

theorem Rows.rect_set : p.rect.set = rowsIn N (p.off 0) n := by
  ext i
  rw [Rect.mem_set_unit, mem_rowsIn, Fin.forall_fin_two, p.off_one]
  constructor
  · rintro ⟨h, -⟩; exact h
  · intro h; exact ⟨h, Nat.zero_le _, by rw [Nat.zero_add]; exact (i 1).isLt⟩

/-- Where the slice's element `x` is: its row is counted from the slice's first row, its lane is the same. -/
theorem Rows.emb_zero (x : (Sn n).Idx) : ((p.rect.emb x) 0).val = p.off 0 + (x 0).val := by
  show p.off 0 + 1 * (x 0).val = _; omega
theorem Rows.emb_one (x : (Sn n).Idx) : ((p.rect.emb x) 1).val = (x 1).val := by
  show p.off 1 + 1 * (x 1).val = _; rw [p.off_one]; omega

end Slices

theorem xRows_set {n : ℕ} (p : Rows 32768 n) : (xRows p).view.set = rowsIn 32768 (p.off 0) n :=
  (View.set_slice_whole main_arg0 p.rect).trans p.rect_set
theorem oRows_set {n : ℕ} (p : Rows 32768 n) : (oRows p).view.set = rowsIn 32768 (p.off 0) n :=
  (View.set_slice_whole main_v1 p.rect).trans p.rect_set
theorem sRows_set {n : ℕ} (p : Rows 10912 n) : (sRows p).view.set = rowsIn 10912 (p.off 0) n :=
  (View.set_slice_whole cc0_scratch0 p.rect).trans p.rect_set
theorem rRows_set {n : ℕ} (p : Rows 10912 n) : (rRows p).view.set = rowsIn 10912 (p.off 0) n :=
  (View.set_slice_whole cc0_scratch1 p.rect).trans p.rect_set

/-! ## What a write into a slice leaves there -/

/-- A write into a slice of a whole buffer leaves, at the slice's elements, any contents `g` that the written values are. -/
theorem write_slice {b : Ref sig .tc} (r : Rect b.ty.shape) (fd g : b.ty.Contents (Elt F))
    (w : r.shape.Idx → Elt F b.ty.elt) (h : ∀ x, w x = g (r.emb x)) :
    ∀ i ∈ ((View.whole b).slice r).set, ((View.whole b).slice r).write (Elt F) fd w Finset.univ i = g i := by
  intro i hi
  obtain ⟨x, -, rfl⟩ := Finset.mem_map.mp hi
  rw [View.write_emb_of_mem _ _ (Finset.mem_univ x)]
  exact h x

/-- Contents given row by row and lane by lane. -/
def byRow {N : ℕ} {α : Type} (f : ℕ → ℕ → α) : (Sn N).Idx → α := fun i => f (i 0).val (i 1).val

theorem byRow_emb {N n : ℕ} {α : Type} (p : Rows N n) (f : ℕ → ℕ → α) (x : (Sn n).Idx) :
    byRow f (p.rect.emb x) = f (p.off 0 + (x 0).val) (x 1).val := by
  unfold byRow; rw [p.emb_zero, p.emb_one]

end Cert.AllSum

end
-- ==== Proof.Contents.lean ====
/-
# Who holds which rows, and what they hold

The eight devices are two planes of four; the argument is split over the two planes, so that a device's block is
its plane's, and the result is the sum of the two blocks, on every device. The rows are four quarters; device `d`
sums its own quarter, and the last 2720 rows of the diagonal quarter, with its mirror in the other plane, and gets
the rest from its two neighbours in its own plane.

This module gives the arithmetic of the devices and rows, and the contents of each buffer at each stage as functions
of the row and the lane.
-/
module

public import proofs.«01_k».proof.Proof.Rows

@[expose] public section

noncomputable section

namespace Cert.AllSum

open Cert.KernelIdeal Cert.KernelIdeal.Gen
open Idealize.ShloMosaic Idealize.ShloMosaic.TcCoe
open Idealize.SL.Sem

variable {F : FTy → Type} [FloatOps F]

/-! ## The devices -/

/-- The quarter of a device. -/
def qr (d : Dev nD) : ℕ := d.val % 4

theorem mirror_mirror (d : Dev nD) : mirror (mirror d) = d := by revert d; decide +kernel
theorem znbr_znbr (d : Dev nD) : znbr (znbr d) = d := by revert d; decide +kernel
theorem ynbr_ynbr (d : Dev nD) : ynbr (ynbr d) = d := by revert d; decide +kernel
theorem qr_lt (d : Dev nD) : qr d < 4 := Nat.mod_lt _ (by decide)
theorem qr_mirror (d : Dev nD) : qr (mirror d) = qr d := by revert d; decide +kernel
theorem qr_znbr_ynbr (d : Dev nD) : qr (znbr d) + qr (ynbr d) = 3 := by revert d; decide +kernel
theorem qr_ynbr_znbr (d : Dev nD) : qr (ynbr (znbr d)) = 3 - qr d := by revert d; decide +kernel
theorem qr_znbr_znbr (d : Dev nD) : qr (znbr (znbr d)) = qr d := by rw [znbr_znbr]
theorem qr_znbr_of_ynbr (d : Dev nD) : qr (znbr (ynbr d)) = 3 - qr d := by revert d; decide +kernel
theorem qr_ne_znbr (d : Dev nD) : qr (znbr d) ≠ qr d := by revert d; decide +kernel
theorem qr_ne_ynbr (d : Dev nD) : qr (ynbr d) ≠ qr d := by revert d; decide +kernel
theorem plane_znbr (d : Dev nD) : (znbr d).val / 4 = d.val / 4 := by revert d; decide +kernel
theorem plane_ynbr (d : Dev nD) : (ynbr d).val / 4 = d.val / 4 := by revert d; decide +kernel
theorem plane_mirror (d : Dev nD) : (mirror d).val / 4 = 1 - d.val / 4 := by revert d; decide +kernel
/-- The four quarters, from the device's point of view. -/
def quarters (d : Dev nD) : List (Fin 4) :=
  [⟨qr d, qr_lt d⟩, ⟨qr (znbr d), qr_lt _⟩, ⟨qr (ynbr d), qr_lt _⟩, ⟨3 - qr d, by omega⟩]
theorem quarters_nodup (d : Dev nD) : (quarters d).Nodup := by revert d; decide +kernel
theorem quarters_mem (d : Dev nD) : (quarters d).toFinset = Finset.univ := by revert d; decide +kernel

/-! ## The rows -/

/-- The first rows of the slices the kernel takes of the argument and of the result. -/
theorem ownRows_off (d : Dev nD) (k : Fin 8) : (ownRows d k).off 0 = 8192 * qr d + 1024 * k.val := by revert d k; decide +kernel
theorem zRows_off (d : Dev nD) (k : Fin 8) : (zRows d k).off 0 = 8192 * qr (znbr d) + 1024 * k.val := by revert d k; decide +kernel
theorem yRows_off (d : Dev nD) (k : Fin 8) : (yRows d k).off 0 = 8192 * qr (ynbr d) + 1024 * k.val := by revert d k; decide +kernel
/-- Where in the diagonal quarter the six pieces of 1024 rows begin: two summed there, four forwarded. -/
def diagAt : Fin 6 → ℕ := ![5472, 6496, 0, 1024, 3072, 4096]
theorem diagRows_off (d : Dev nD) (r : Fin 6) : (diagRows d r).off 0 = 8192 * (3 - qr d) + diagAt r := by revert d r; decide +kernel
theorem selfRows_off (d : Dev nD) : (selfRows d).off 0 = 8192 * (3 - qr d) + 7520 := by revert d; decide +kernel
theorem fwdZ2_off (d : Dev nD) : (fwdZ2 d).off 0 = 8192 * qr (ynbr d) + 2048 := by revert d; decide +kernel
theorem fwdY0_off (d : Dev nD) : (fwdY0 d).off 0 = 8192 * qr (znbr d) + 2736 := by revert d; decide +kernel
theorem fwdY3_off (d : Dev nD) : (fwdY3 d).off 0 = 8192 * qr (znbr d) + 5120 := by revert d; decide +kernel
theorem arrZ2_off (d : Dev nD) : (arrZ2 d).off 0 = 8192 * (3 - qr d) + 2048 := by revert d; decide +kernel
theorem arrY0_off (d : Dev nD) : (arrY0 d).off 0 = 8192 * (3 - qr d) + 2736 := by revert d; decide +kernel
theorem arrY3_off (d : Dev nD) : (arrY3 d).off 0 = 8192 * (3 - qr d) + 5120 := by revert d; decide +kernel

/-- The row of the argument that row `r` of device `d`'s send buffer is cast from. -/
def grow (d : Dev nD) (r : ℕ) : ℕ := if r < 8192 then 8192 * qr d + r else 8192 * (3 - qr d) + 5472 + (r - 8192)

theorem grow_mirror (d : Dev nD) (r : ℕ) : grow (mirror d) r = grow d r := by unfold grow; rw [qr_mirror]
/-- The rows of one chunk are consecutive. -/
theorem grow_add (d : Dev nD) (i x n : ℕ) (hi : i < 11) (hx : x < 1024) : grow d (1024 * i + x) = grow d (1024 * i) + x := by
  unfold grow
  by_cases h : i < 8
  · rw [if_pos (by omega), if_pos (by omega)]; omega
  · rw [if_neg (by omega), if_neg (by omega)]; omega
theorem grow_own (d : Dev nD) (k : ℕ) (hk : k < 8) : grow d (1024 * k) = 8192 * qr d + 1024 * k := if_pos (by omega)
theorem grow_diag (d : Dev nD) (j : ℕ) : grow d (1024 * (8 + j)) = 8192 * (3 - qr d) + 5472 + 1024 * j := by
  unfold grow; rw [if_neg (by omega)]; omega

/-- Chunk `i` has this many rows. -/
def chunkLen (i : ℕ) : ℕ := if i < 10 then 1024 else 672

/-! ## The contents -/

variable (m : (ℓ : Loc nD τ sig) → Buf (Elt F) ℓ)

/-- Row `r`, lane `l` of a block of 32768 rows. -/
def at32 (r l : ℕ) : (Sn 32768).Idx := fun a =>
  ⟨(![r % 32768, l % 1024] : Fin 2 → ℕ) a, by fin_cases a; exacts [Nat.mod_lt _ (by decide), Nat.mod_lt _ (by decide)]⟩

theorem at32_self (i : (Sn 32768).Idx) : at32 (i 0).val (i 1).val = i := by
  funext a; apply Fin.ext
  have h0 : (i 0).val < 32768 := (i 0).isLt
  have h1 : (i 1).val < 1024 := (i 1).isLt
  fin_cases a
  · exact Nat.mod_eq_of_lt h0
  · exact Nat.mod_eq_of_lt h1

/-- The argument on device `d` at launch. -/
def xAll (d : Dev nD) : (Sn 32768).Idx → Elt F .f32 := m ((d : Thread nD τ).loc main_arg0)
/-- What the result's buffer holds on device `d` at launch. -/
def oAll (d : Dev nD) : (Sn 32768).Idx → Elt F .bf16 := m ((d : Thread nD τ).loc main_v1)

/-- The argument by row and lane. -/
def xIn (d : Dev nD) (r l : ℕ) : Elt F .f32 := xAll m d (at32 r l)
/-- The cast of it, which is what a device sends to its mirror. -/
def xCast (d : Dev nD) (r l : ℕ) : Elt F .bf16 := FloatOps.truncf .bf16 bitsLt_bf16_f32 (xIn m d r l)
/-- The sum that device `d` forms: its own value first, its mirror's second. -/
def xSum (d : Dev nD) (r l : ℕ) : Elt F .bf16 :=
  FloatOps.truncf .bf16 bitsLt_bf16_f32 (FloatOps.addf (FloatOps.extf .f32 bitsLt_bf16_f32 (xCast m d r l))
    (FloatOps.extf .f32 bitsLt_bf16_f32 (xCast m (mirror d) r l)))

theorem xAll_eq (d : Dev nD) : xAll m d = byRow (xIn m d) := by
  funext i; unfold byRow xIn; rw [at32_self]

/-- A row of the diagonal quarter that device `d` sums itself. -/
def IsSelf (d : Dev nD) (r : ℕ) : Prop := r / 8192 = 3 - qr d ∧ 5472 ≤ r % 8192
instance (d : Dev nD) (r : ℕ) : Decidable (IsSelf d r) := by unfold IsSelf; infer_instance

/-- The device whose sum device `d` has in the row at the end. -/
def srcOf (d : Dev nD) (r : ℕ) : Dev nD :=
  if IsSelf d r then d else ⟨4 * (d.val / 4) + r / 8192 % 4, by have := d.isLt; change _ < 8 at this ⊢; omega⟩

/-- The result on device `d`. -/
def outV (d : Dev nD) (r l : ℕ) : Elt F .bf16 := xSum m (srcOf d r) r l
/-- The same as a buffer. -/
def outF (d : Dev nD) : (Sn 32768).Idx → Elt F .bf16 := byRow (outV m d)

/-- The send buffer once the rows are cast. -/
def stX (d : Dev nD) : (Sn 10912).Idx → Elt F .bf16 := byRow fun r => xCast m d (grow d r)
/-- The receive buffer once the mirror's rows are there. -/
def rcX (d : Dev nD) : (Sn 10912).Idx → Elt F .bf16 := byRow fun r => xCast m (mirror d) (grow d r)
/-- The send buffer once the rows are summed. -/
def suX (d : Dev nD) : (Sn 10912).Idx → Elt F .bf16 := byRow fun r => outV m d (grow d r)
/-- The staging buffer once chunk `i` is in it. -/
def vstX (d : Dev nD) (i : ℕ) : (Sn 1024).Idx → Elt F .f32 := byRow fun r => xIn m d (grow d (1024 * i) + r)

/-- Two devices of one plane agree on a row that neither sums by itself. -/
theorem outV_agree {d e : Dev nD} (hp : d.val / 4 = e.val / 4) (r l : ℕ) (hd : ¬ IsSelf d r) (he : ¬ IsSelf e r) :
    outV m d r l = outV m e r l := by
  unfold outV srcOf; rw [if_neg hd, if_neg he]; simp only [hp]

/-- On the rows that a device sums, the result is the device's own sum. -/
theorem outV_grow (d : Dev nD) (r l : ℕ) (hr : r < 10912) : outV m d (grow d r) l = xSum m d (grow d r) l := by
  have hq := qr_lt d
  unfold outV; congr 1; unfold srcOf
  split
  · rfl
  · rename_i h
    unfold IsSelf at h
    by_cases h8 : r < 8192
    · have hg : grow d r = 8192 * qr d + r := if_pos h8
      apply Fin.ext; simp only; rw [hg]; unfold qr at hq ⊢; omega
    · have hg : grow d r = 8192 * (3 - qr d) + 5472 + (r - 8192) := if_neg h8
      rw [hg] at h; omega

/-- A row of a quarter other than the diagonal one is not a row that the device sums in the diagonal quarter. -/
theorem not_isSelf_quarter {d : Dev nD} {r : ℕ} (p o : ℕ) (hr : r = 8192 * p + o) (ho : o < 8192) (h : p ≠ 3 - qr d ∨ o < 5472) :
    ¬ IsSelf d r := by unfold IsSelf; omega

end Cert.AllSum

end
-- ==== Proof.Schedule.lean ====
/-
# The protocol

For each semaphore cell of each device: how often it is waited for, what is credited to it, and what the wait for it
hands the device. The cells are counted by the number of the semaphore, the barrier's last.

A DMA cell is waited for once, for one transfer, except the staging cell, which is waited for once per chunk. The
barrier cell is waited for once, for one unit from each of the three neighbours.
-/
module

public import proofs.«01_k».proof.Proof.Contents

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Cells, amounts -/

/-- The semaphore of number `k`; number 80 is the barrier semaphore. -/
def sm (k : ℕ) : SemLoc sig := if h : k < 80 then .dma (⟨k, h⟩ : Fin 80) else .reg barS
/-- Its cell on device `c`. -/
def cell (c : Dev nD) (k : ℕ) : GSem nD τ sig := ((c : Thread nD τ), sm k)

theorem sm_dma {k : ℕ} (h : k < 80) : sm k = .dma (⟨k, h⟩ : Fin 80) := dif_pos h
theorem sm_bar : sm 80 = .reg barS := dif_neg (by decide)

theorem sm_inj {k k' : ℕ} (hk : k ≤ 80) (hk' : k' ≤ 80) (h : sm k = sm k') : k = k' := by
  unfold sm at h
  split at h <;> split at h
  · injection h with h; exact congrArg Fin.val h
  · cases h
  · cases h
  · omega

theorem cell_inj {c c' : Dev nD} {k k' : ℕ} (hk : k ≤ 80) (hk' : k' ≤ 80) (h : cell c k = cell c' k') : c = c' ∧ k = k' :=
  ⟨congrArg (fun g : GSem nD τ sig => g.1.1) h, sm_inj hk hk' (congrArg Prod.snd h)⟩

/-- Pieces forwarded along the third axis: where in their quarter, how many rows. -/
def zfo (j : ℕ) : ℕ := 1024 * j
def zfl (j : ℕ) : ℕ := if j < 2 then 1024 else 688
/-- Pieces forwarded along the second axis. -/
def yfo (j : ℕ) : ℕ := if j = 0 then 2736 else if j < 3 then 2048 + 1024 * j else 5120
def yfl (j : ℕ) : ℕ := if j = 0 then 336 else if j < 3 then 1024 else 352

/-- The rows of the transfer that credits cell `k`, in round `r`. -/
def rowsOf (k r : ℕ) : ℕ :=
  if k = 0 then chunkLen r
  else if k < 12 then chunkLen (k - 1)
  else if k < 23 then chunkLen (k - 12)
  else if k < 34 then chunkLen (k - 23)
  else if k < 66 then 1024
  else if k < 69 then zfl (k - 66)
  else if k < 72 then zfl (k - 69)
  else if k < 76 then yfl (k - 72)
  else yfl (k - 76)

/-- What a transfer of `n` rows of 16-bit values credits, and of 32-bit values. -/
def credB (n : ℕ) : ℕ := (main_v1 : Ref sig .tc).dmaCredit (Sn n) .bf16
def credF (n : ℕ) : ℕ := (main_arg0 : Ref sig .tc).dmaCredit (Sn n) .f32

theorem credB_pos {n : ℕ} (h : 0 < n) : 0 < credB n := sig.dmaCredit_pos _ _ _ _ _ (numel_pos h)
theorem credF_pos {n : ℕ} (h : 0 < n) : 0 < credF n := sig.dmaCredit_pos _ _ _ _ _ (numel_pos h)

/-- What is credited to cell `k` in round `r`. -/
def amt (k r : ℕ) : ℕ := if k = 0 then credF (rowsOf k r) else credB (rowsOf k r)

theorem chunkLen_pos (i : ℕ) : 0 < chunkLen i := by unfold chunkLen; split <;> decide
theorem zfl_pos (i : ℕ) : 0 < zfl i := by unfold zfl; split <;> decide
theorem yfl_pos (i : ℕ) : 0 < yfl i := by unfold yfl; split_ifs <;> decide
theorem rowsOf_pos (k r : ℕ) : 0 < rowsOf k r := by
  unfold rowsOf
  split_ifs <;> first | exact chunkLen_pos _ | exact zfl_pos _ | exact yfl_pos _ | decide
theorem amt_pos (k r : ℕ) : 0 < amt k r := by
  unfold amt; split
  · exact credF_pos (rowsOf_pos _ _)
  · exact credB_pos (rowsOf_pos _ _)

/-! ## The payloads -/

variable (m : (ℓ : Loc nD τ sig) → Buf (Elt F) ℓ)

/-- The three shares of a summed chunk: the two neighbours' copies and the local one read it at the same time. -/
abbrev sh1 : PosShare TreeShare := fullShare.left
abbrev sh2 : PosShare TreeShare := fullShare.right.left
abbrev sh3 : PosShare TreeShare := fullShare.right.right
/-- The share of the local copy: a chunk of the diagonal quarter is read by that copy alone. -/
def shOut (i : ℕ) : PosShare TreeShare := if i < 8 then sh3 else fullShare

/-- What the wait for DMA cell `k`, round `r`, hands device `c`. -/
def pay (c : Dev nD) (k r : ℕ) : sProp 𝕄 :=
  if k = 0 then
    iprop(vPts c fullShare 0 (chunkLen r) (vstX m c r) ∗ xPts c fullShare (grow c (1024 * r)) (chunkLen r) (xAll m c))
  else if k < 12 then
    iprop(oPts c fullShare (grow c (1024 * (k - 1))) (chunkLen (k - 1)) (outF m c)
      ∗ sPts c (shOut (k - 1)) (1024 * (k - 1)) (chunkLen (k - 1)) (suX m c))
  else if k < 23 then sPts c fullShare (1024 * (k - 12)) (chunkLen (k - 12)) (stX m c)
  else if k < 34 then rPts c fullShare (1024 * (k - 23)) (chunkLen (k - 23)) (rcX m c)
  else if k < 42 then sPts c sh1 (1024 * (k - 34)) 1024 (suX m c)
  else if k < 50 then oPts c fullShare (8192 * qr (znbr c) + 1024 * (k - 42)) 1024 (outF m c)
  else if k < 58 then sPts c sh2 (1024 * (k - 50)) 1024 (suX m c)
  else if k < 66 then oPts c fullShare (8192 * qr (ynbr c) + 1024 * (k - 58)) 1024 (outF m c)
  else if k < 69 then oPts c fullShare (8192 * qr (ynbr c) + zfo (k - 66)) (zfl (k - 66)) (outF m c)
  else if k < 72 then oPts c fullShare (8192 * (3 - qr c) + zfo (k - 69)) (zfl (k - 69)) (outF m c)
  else if k < 76 then oPts c fullShare (8192 * qr (znbr c) + yfo (k - 72)) (yfl (k - 72)) (outF m c)
  else oPts c fullShare (8192 * (3 - qr c) + yfo (k - 76)) (yfl (k - 76)) (outF m c)

/-- What neighbour `d`'s signal hands device `c`: the mirror its receive buffer; the two neighbours in the plane the
    rows of their result that `c` writes — `c`'s quarter, and the piece of their diagonal quarter that `c` forwards. -/
def barPay (c : Dev nD) (d : Fin 3) : sProp 𝕄 :=
  if d = 0 then iprop(∃ f, rPts (mirror c) fullShare 0 10912 f)
  else if d = 1 then
    iprop(oPts (znbr c) fullShare (8192 * qr c) 8192 (oAll m (znbr c))
      ∗ oPts (znbr c) fullShare (8192 * qr (ynbr c)) 2736 (oAll m (znbr c)))
  else
    iprop(oPts (ynbr c) fullShare (8192 * qr c) 8192 (oAll m (ynbr c))
      ∗ oPts (ynbr c) fullShare (8192 * qr (znbr c) + 2736) 2736 (oAll m (ynbr c)))

instance xPts_storable (c q a n) (f : (Sn 32768).Idx → Elt F .f32) : BI.Storable (upEmb : UEmb _ 𝕄) (xPts c q a n f) := by
  unfold xPts; infer_instance
instance oPts_storable (c q a n) (f : (Sn 32768).Idx → Elt F .bf16) : BI.Storable (upEmb : UEmb _ 𝕄) (oPts c q a n f) := by
  unfold oPts; infer_instance
instance sPts_storable (c q a n) (f : (Sn 10912).Idx → Elt F .bf16) : BI.Storable (upEmb : UEmb _ 𝕄) (sPts c q a n f) := by
  unfold sPts; infer_instance
instance rPts_storable (c q a n) (f : (Sn 10912).Idx → Elt F .bf16) : BI.Storable (upEmb : UEmb _ 𝕄) (rPts c q a n f) := by
  unfold rPts; infer_instance
instance vPts_storable (c q a n) (f : (Sn 1024).Idx → Elt F .f32) : BI.Storable (upEmb : UEmb _ 𝕄) (vPts c q a n f) := by
  unfold vPts; infer_instance

instance ite_storable (p : Prop) [Decidable p] (A B : sProp 𝕄) [BI.Storable (upEmb : UEmb _ 𝕄) A] [BI.Storable (upEmb : UEmb _ 𝕄) B] :
    BI.Storable (upEmb : UEmb _ 𝕄) (if p then A else B) := by
  by_cases h : p
  · rw [if_pos h]; infer_instance
  · rw [if_neg h]; infer_instance

instance pay_storable (c : Dev nD) (k r : ℕ) : BI.Storable (upEmb : UEmb _ 𝕄) (pay m c k r) := by
  unfold pay; infer_instance
instance barPay_storable (c : Dev nD) (d : Fin 3) : BI.Storable (upEmb : UEmb _ 𝕄) (barPay m c d) := by
  unfold barPay; infer_instance

/-! ## The schedule -/

/-- The rounds of DMA cell `k`: the staging cell has one per chunk, every other cell one. -/
def HasRound (k r : ℕ) : Prop := if k = 0 then r < 11 else r = 0
instance (k r : ℕ) : Decidable (HasRound k r) := by unfold HasRound; infer_instance

/-- The schedule of every cell. -/
def Rd : Rounds.Schedule (GSem nD τ sig) (Fin 3) 𝕄 where
  duties g r := match g.2 with
    | .reg s => if r = 0 ∧ g.1.2 = .tc ∧ s = barS then Finset.univ else ∅
    | .dma s => if HasRound (s : Fin 80).val r ∧ g.1.2 = .tc then {0} else ∅
  unitless _ := False
  amount g r _ := match g.2 with
    | .reg _ => 1
    | .dma s => amt (s : Fin 80).val r
  payload g r d := match g.2 with
    | .reg _ => barPay m g.1.1 d
    | .dma s => pay m g.1.1 (s : Fin 80).val r
  amount_pos g r d _ := by
    split
    · exact Nat.one_pos
    · exact amt_pos _ _

instance Rd_storable (g : GSem nD τ sig) (r : ℕ) (d : Fin 3) : BI.Storable (upEmb : UEmb _ 𝕄) ((Rd m).payload g r d) := by
  show BI.Storable upEmb (match g.2 with | .reg _ => barPay m g.1.1 d | .dma s => pay m g.1.1 (s : Fin 80).val r)
  split <;> infer_instance

section Facts
variable (c : Dev nD) {k r : ℕ}

theorem duties_dma (hk : k < 80) (hr : HasRound k r) : (Rd m).duties (cell c k) r = {0} := by
  unfold cell; rw [sm_dma hk]; exact if_pos ⟨hr, rfl⟩
theorem duties_none (hk : k < 80) (hr : ¬ HasRound k r) : (Rd m).duties (cell c k) r = ∅ := by
  unfold cell; rw [sm_dma hk]; exact if_neg fun h => hr h.1
theorem amount_dma (hk : k < 80) (d : Fin 3) : (Rd m).amount (cell c k) r d = amt k r := by
  unfold cell; rw [sm_dma hk]; rfl
theorem payload_dma (hk : k < 80) (d : Fin 3) : (Rd m).payload (cell c k) r d = pay m c k r := by
  unfold cell; rw [sm_dma hk]; rfl
theorem expect_dma (hk : k < 80) (hr : HasRound k r) : (Rd m).expect (cell c k) r = amt k r := by
  unfold Schedule.expect Schedule.amountOf; rw [duties_dma m c hk hr, Finset.sum_singleton, amount_dma m c hk]
/-- What is left to take of a round of a DMA cell is its payload. -/
theorem rest_dma (hk : k < 80) (hr : HasRound k r) :
    bigSep ((Rd m).duties (cell c k) r \ ∅) (fun d => (Rd m).payload (cell c k) r d) = pay m c k r := by
  rw [Finset.sdiff_empty, duties_dma m c hk hr, bigSep_singleton, payload_dma m c hk]

theorem duties_bar : (Rd m).duties (cell c 80) 0 = Finset.univ := by
  unfold cell; rw [sm_bar]; dsimp only [Rd]; exact if_pos ⟨rfl, rfl, rfl⟩
theorem duties_bar_none (hr : 1 ≤ r) : (Rd m).duties (cell c 80) r = ∅ := by
  unfold cell; rw [sm_bar]; dsimp only [Rd]; exact if_neg fun h => by omega
theorem amount_bar (d : Fin 3) : (Rd m).amount (cell c 80) r d = 1 := by
  unfold cell; rw [sm_bar]; rfl
theorem payload_bar (d : Fin 3) : (Rd m).payload (cell c 80) r d = barPay m c d := by
  unfold cell; rw [sm_bar]; rfl
theorem expect_bar : (Rd m).expect (cell c 80) 0 = 3 := by
  unfold Schedule.expect Schedule.amountOf
  rw [duties_bar, Finset.sum_congr rfl fun d _ => amount_bar m c d, Finset.sum_const, Finset.card_univ, Fintype.card_fin, smul_eq_mul]
theorem rest_bar : bigSep ((Rd m).duties (cell c 80) 0 \ ∅) (fun d => (Rd m).payload (cell c 80) 0 d)
    = iprop(barPay m c 0 ∗ barPay m c 1 ∗ barPay m c 2) := by
  rw [Finset.sdiff_empty, duties_bar, bigSep_congr fun d _ => payload_bar m c d]
  exact bigSep_univ_eq_bigSepL [0, 1, 2] (by decide) (by decide) _

end Facts

/-! ## The payloads, kind by kind -/

section Kinds
variable (c : Dev nD)

theorem pay_load (i : ℕ) : pay m c 0 i
    = iprop(vPts c fullShare 0 (chunkLen i) (vstX m c i) ∗ xPts c fullShare (grow c (1024 * i)) (chunkLen i) (xAll m c)) := if_pos rfl
theorem pay_out {i : ℕ} (h : i < 11) : pay m c (1 + i) 0
    = iprop(oPts c fullShare (grow c (1024 * i)) (chunkLen i) (outF m c) ∗ sPts c (shOut i) (1024 * i) (chunkLen i) (suX m c)) := by
  unfold pay; rw [if_neg (by omega), if_pos (by omega), Nat.add_sub_cancel_left]
theorem pay_xs {i : ℕ} (h : i < 11) : pay m c (12 + i) 0 = sPts c fullShare (1024 * i) (chunkLen i) (stX m c) := by
  unfold pay; rw [if_neg (by omega), if_neg (by omega), if_pos (by omega), Nat.add_sub_cancel_left]
theorem pay_xr {i : ℕ} (h : i < 11) : pay m c (23 + i) 0 = rPts c fullShare (1024 * i) (chunkLen i) (rcX m c) := by
  unfold pay; rw [if_neg (by omega), if_neg (by omega), if_neg (by omega), if_pos (by omega), Nat.add_sub_cancel_left]
theorem pay_zs {k : ℕ} (h : k < 8) : pay m c (34 + k) 0 = sPts c sh1 (1024 * k) 1024 (suX m c) := by
  unfold pay
  rw [if_neg (by omega), if_neg (by omega), if_neg (by omega), if_neg (by omega), if_pos (by omega), Nat.add_sub_cancel_left]
theorem pay_zr {k : ℕ} (h : k < 8) : pay m c (42 + k) 0 = oPts c fullShare (8192 * qr (znbr c) + 1024 * k) 1024 (outF m c) := by
  unfold pay
  rw [if_neg (by omega), if_neg (by omega), if_neg (by omega), if_neg (by omega), if_neg (by omega), if_pos (by omega), Nat.add_sub_cancel_left]
theorem pay_ys {k : ℕ} (h : k < 8) : pay m c (50 + k) 0 = sPts c sh2 (1024 * k) 1024 (suX m c) := by
  unfold pay
  rw [if_neg (by omega), if_neg (by omega), if_neg (by omega), if_neg (by omega), if_neg (by omega), if_neg (by omega), if_pos (by omega),
    Nat.add_sub_cancel_left]
theorem pay_yr {k : ℕ} (h : k < 8) : pay m c (58 + k) 0 = oPts c fullShare (8192 * qr (ynbr c) + 1024 * k) 1024 (outF m c) := by
  unfold pay
  rw [if_neg (by omega), if_neg (by omega), if_neg (by omega), if_neg (by omega), if_neg (by omega), if_neg (by omega), if_neg (by omega),
    if_pos (by omega), Nat.add_sub_cancel_left]
theorem pay_zfs {j : ℕ} (h : j < 3) : pay m c (66 + j) 0 = oPts c fullShare (8192 * qr (ynbr c) + zfo j) (zfl j) (outF m c) := by
  unfold pay
  rw [if_neg (by omega), if_neg (by omega), if_neg (by omega), if_neg (by omega), if_neg (by omega), if_neg (by omega), if_neg (by omega),
    if_neg (by omega), if_pos (by omega), Nat.add_sub_cancel_left]
theorem pay_zfr {j : ℕ} (h : j < 3) : pay m c (69 + j) 0 = oPts c fullShare (8192 * (3 - qr c) + zfo j) (zfl j) (outF m c) := by
  unfold pay
  rw [if_neg (by omega), if_neg (by omega), if_neg (by omega), if_neg (by omega), if_neg (by omega), if_neg (by omega), if_neg (by omega),
    if_neg (by omega), if_neg (by omega), if_pos (by omega), Nat.add_sub_cancel_left]
theorem pay_yfs {j : ℕ} (h : j < 4) : pay m c (72 + j) 0 = oPts c fullShare (8192 * qr (znbr c) + yfo j) (yfl j) (outF m c) := by
  unfold pay
  rw [if_neg (by omega), if_neg (by omega), if_neg (by omega), if_neg (by omega), if_neg (by omega), if_neg (by omega), if_neg (by omega),
    if_neg (by omega), if_neg (by omega), if_neg (by omega), if_pos (by omega), Nat.add_sub_cancel_left]
theorem pay_yfr {j : ℕ} (h : j < 4) : pay m c (76 + j) 0 = oPts c fullShare (8192 * (3 - qr c) + yfo j) (yfl j) (outF m c) := by
  unfold pay
  rw [if_neg (by omega), if_neg (by omega), if_neg (by omega), if_neg (by omega), if_neg (by omega), if_neg (by omega), if_neg (by omega),
    if_neg (by omega), if_neg (by omega), if_neg (by omega), if_neg (by omega), Nat.add_sub_cancel_left]

end Kinds

section Amounts

theorem amt_load (i : ℕ) : amt 0 i = credF (chunkLen i) := rfl
theorem amt_out {i : ℕ} (h : i < 11) : amt (1 + i) 0 = credB (chunkLen i) := by
  unfold amt rowsOf; rw [if_neg (by omega), if_neg (by omega), if_pos (by omega), Nat.add_sub_cancel_left]
theorem amt_xs {i : ℕ} (h : i < 11) : amt (12 + i) 0 = credB (chunkLen i) := by
  unfold amt rowsOf; rw [if_neg (by omega), if_neg (by omega), if_neg (by omega), if_pos (by omega), Nat.add_sub_cancel_left]
theorem amt_xr {i : ℕ} (h : i < 11) : amt (23 + i) 0 = credB (chunkLen i) := by
  unfold amt rowsOf; rw [if_neg (by omega), if_neg (by omega), if_neg (by omega), if_neg (by omega), if_pos (by omega), Nat.add_sub_cancel_left]
theorem amt_sum {k : ℕ} (h : 34 ≤ k) (h' : k < 66) : amt k 0 = credB 1024 := by
  unfold amt rowsOf; rw [if_neg (by omega), if_neg (by omega), if_neg (by omega), if_neg (by omega), if_neg (by omega), if_pos (by omega)]
theorem amt_zfs {j : ℕ} (h : j < 3) : amt (66 + j) 0 = credB (zfl j) := by
  unfold amt rowsOf
  rw [if_neg (by omega), if_neg (by omega), if_neg (by omega), if_neg (by omega), if_neg (by omega), if_neg (by omega), if_pos (by omega),
    Nat.add_sub_cancel_left]
theorem amt_zfr {j : ℕ} (h : j < 3) : amt (69 + j) 0 = credB (zfl j) := by
  unfold amt rowsOf
  rw [if_neg (by omega), if_neg (by omega), if_neg (by omega), if_neg (by omega), if_neg (by omega), if_neg (by omega), if_neg (by omega),
    if_pos (by omega), Nat.add_sub_cancel_left]
theorem amt_yfs {j : ℕ} (h : j < 4) : amt (72 + j) 0 = credB (yfl j) := by
  unfold amt rowsOf
  rw [if_neg (by omega), if_neg (by omega), if_neg (by omega), if_neg (by omega), if_neg (by omega), if_neg (by omega), if_neg (by omega),
    if_neg (by omega), if_pos (by omega), Nat.add_sub_cancel_left]
theorem amt_yfr {j : ℕ} (h : j < 4) : amt (76 + j) 0 = credB (yfl j) := by
  unfold amt rowsOf
  rw [if_neg (by omega), if_neg (by omega), if_neg (by omega), if_neg (by omega), if_neg (by omega), if_neg (by omega), if_neg (by omega),
    if_neg (by omega), if_neg (by omega), Nat.add_sub_cancel_left]

end Amounts

end Cert.AllSum

end
-- ==== Proof.Dues.lean ====
/-
# What a device owes, and why no wait is stuck

A device owes its neighbours one thing per signal and per remote copy, in the order of its program: three units to
the barriers, eleven chunks to its mirror, eight times a chunk to each neighbour in the plane, seven forwarded pieces.
The cells are given levels that grow along this list, so that a device waiting for a cell owes only to cells above it.
-/
module

public import proofs.«01_k».proof.Proof.Schedule

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The cell that due `j` is owed to, by its number: the barrier three times, then the chunks for the mirror, the two
    neighbours' chunks in turn, the forwarded pieces in the order in which they are sent. -/
def dueK (j : ℕ) : ℕ :=
  if j < 3 then 80
  else if j < 14 then 23 + (j - 3)
  else if j < 30 then (if j % 2 = 0 then 42 else 58) + (j - 14) / 2
  else if j = 30 then 69 else if j = 31 then 70 else if j = 32 then 76 else if j = 33 then 71 else 43 + j

/-- The device at the other end of cell `k`'s transfers; an involution. -/
def via (k : ℕ) (c : Dev nD) : Dev nD :=
  if 23 ≤ k ∧ k < 34 then mirror c
  else if (42 ≤ k ∧ k < 50) ∨ (69 ≤ k ∧ k < 72) then znbr c
  else if (58 ≤ k ∧ k < 66) ∨ (76 ≤ k ∧ k < 80) then ynbr c
  else c

/-- The device of the barrier's unit `j`. -/
def barTo (j : ℕ) (c : Dev nD) : Dev nD := if j = 0 then mirror c else if j = 1 then znbr c else ynbr c

theorem via_via (k : ℕ) (c : Dev nD) : via k (via k c) = c := by
  by_cases h1 : 23 ≤ k ∧ k < 34
  · rw [show via k = mirror from funext fun c => if_pos h1, mirror_mirror]
  by_cases h2 : (42 ≤ k ∧ k < 50) ∨ (69 ≤ k ∧ k < 72)
  · rw [show via k = znbr from funext fun c => by unfold via; rw [if_neg h1, if_pos h2], znbr_znbr]
  by_cases h3 : (58 ≤ k ∧ k < 66) ∨ (76 ≤ k ∧ k < 80)
  · rw [show via k = ynbr from funext fun c => by unfold via; rw [if_neg h1, if_neg h2, if_pos h3], ynbr_ynbr]
  · rw [show via k = id from funext fun c => by unfold via; rw [if_neg h1, if_neg h2, if_neg h3]; rfl]; rfl
theorem barTo_barTo (j : ℕ) (c : Dev nD) : barTo j (barTo j c) = c := by
  by_cases h1 : j = 0
  · rw [show barTo j = mirror from funext fun c => if_pos h1, mirror_mirror]
  by_cases h2 : j = 1
  · rw [show barTo j = znbr from funext fun c => by unfold barTo; rw [if_neg h1, if_pos h2], znbr_znbr]
  · rw [show barTo j = ynbr from funext fun c => by unfold barTo; rw [if_neg h1, if_neg h2], ynbr_ynbr]

/-- The device that due `j` is owed to. -/
def dueTo (j : ℕ) (c : Dev nD) : Dev nD := if j < 3 then barTo j c else via (dueK j) c
/-- How much it is. -/
def dueAmt (j : ℕ) : ℕ := if j < 3 then 1 else amt (dueK j) 0

theorem dueTo_dueTo (j : ℕ) (c : Dev nD) : dueTo j (dueTo j c) = c := by
  by_cases h : j < 3
  · rw [show dueTo j = barTo j from funext fun c => if_pos h, barTo_barTo]
  · rw [show dueTo j = via (dueK j) from funext fun c => if_neg h, via_via]

theorem dueK_le (j : ℕ) (hj : j < 37) : dueK j ≤ 80 := by
  unfold dueK; split_ifs <;> omega

/-- What device `c` still owes once its first `j` dues are paid. -/
def owed (c : Dev nD) (j : ℕ) : CellTallies nD τ sig Unit :=
  ∑ i ∈ Finset.Ico j 37, tallyAt (cell (dueTo i c) (dueK i)) () (dueAmt i)

theorem owed_step (c : Dev nD) {j : ℕ} (hj : j < 37) :
    owed c j = owed c (j + 1) + tallyAt (cell (dueTo j c) (dueK j)) () (dueAmt j) := by
  unfold owed
  rw [show Finset.Ico j 37 = insert j (Finset.Ico (j + 1) 37) by ext x; simp only [Finset.mem_Ico, Finset.mem_insert]; omega,
    Finset.sum_insert (by rw [Finset.mem_Ico]; omega), add_comm]
theorem owed_end (c : Dev nD) : owed c 37 = 0 := by unfold owed; rw [Finset.Ico_self, Finset.sum_empty]

/-! ## Levels -/

/-- The level of cell `k`. -/
def levK (k : ℕ) : ℕ :=
  if k = 80 then 1
  else if 23 ≤ k ∧ k < 34 then 2
  else if (42 ≤ k ∧ k < 50) ∨ (58 ≤ k ∧ k < 66) then 3
  else if (69 ≤ k ∧ k < 72) ∨ (76 ≤ k ∧ k < 80) then 4
  else 0

/-- The tallies' index set and levels, of every cell of the machine. -/
def L (g : GSem nD τ sig) : Finset Unit := if g.1.2 = .tc then {()} else ∅
def lv (g : GSem nD τ sig) (_ : Unit) : ℕ := match g.2 with
  | .reg _ => 1
  | .dma s => levK (s : Fin 80).val

theorem L_of_ne (g : GSem nD τ sig) (h : g.1.2 ≠ .tc) : L g = ∅ := if_neg h
theorem L_cell (c : Dev nD) (k : ℕ) : L (cell c k) = {()} := if_pos rfl
theorem lv_cell (c : Dev nD) {k : ℕ} (hk : k ≤ 80) : lv (cell c k) () = levK k := by
  by_cases h : k < 80
  · unfold cell lv; rw [sm_dma h]
  · obtain rfl : k = 80 := by omega
    unfold cell lv; rw [sm_bar]; rfl

/-- A device that has paid its first `j` dues owes only what a later due names. -/
theorem owed_pos {c : Dev nD} {j : ℕ} {g : GSem nD τ sig} {u : Unit} (h : 0 < owed c j g u) :
    ∃ i, j ≤ i ∧ i < 37 ∧ g = cell (dueTo i c) (dueK i) := by
  unfold owed at h
  rw [Finset.sum_apply, Finsupp.finset_sum_apply] at h
  obtain ⟨i, hi, hne⟩ := Finset.exists_ne_zero_of_sum_ne_zero (Nat.pos_iff_ne_zero.mp h)
  rw [tallyAt_apply] at hne
  obtain ⟨h1, h2⟩ := Finset.mem_Ico.mp hi
  exact ⟨i, h1, h2, by by_contra hg; exact hne (if_neg fun h' => hg h'.1)⟩

/-- A device may wait for a cell when all it still owes is to cells of a higher level. -/
theorem may_wait (c : Dev nD) {k j : ℕ} (hk : k ≤ 80) (h : ∀ i, j ≤ i → i < 37 → levK k < levK (dueK i)) :
    (levAts L lv : sProp 𝕄) ⊢ MayWait (c : Thread nD τ) (sm k) () (owed c j) :=
  MayOwe.of_cut (L := L) (lev := lv) (levK k)
    (fun p hp => by rw [Finset.mem_singleton.mp hp]; exact (L_cell c k).symm ▸ Finset.mem_singleton_self _)
    (fun g u hg => by obtain ⟨i, -, -, rfl⟩ := owed_pos hg; rw [L_cell]; exact Finset.mem_singleton_self _)
    (fun p hp => by rw [Finset.mem_singleton.mp hp]; exact (lv_cell c hk).le)
    (fun g u hg => by
      obtain ⟨i, h1, h2, rfl⟩ := owed_pos hg
      rw [show lv (cell (dueTo i c) (dueK i)) u = levK (dueK i) from lv_cell _ (dueK_le i h2)]
      exact h i h1 h2)

/-! Which dues are above which level. -/

theorem lev_ge {j : ℕ} : (3 ≤ j → j < 37 → 2 ≤ levK (dueK j)) ∧ (14 ≤ j → j < 37 → 3 ≤ levK (dueK j)) ∧ (30 ≤ j → j < 37 → 4 ≤ levK (dueK j)) := by
  by_cases h : j < 37
  · have := (by decide : ∀ j : Fin 37, (3 ≤ j.val → 2 ≤ levK (dueK j.val)) ∧ (14 ≤ j.val → 3 ≤ levK (dueK j.val)) ∧ (30 ≤ j.val → 4 ≤ levK (dueK j.val))) ⟨j, h⟩
    exact ⟨fun a _ => this.1 a, fun a _ => this.2.1 a, fun a _ => this.2.2 a⟩
  · exact ⟨fun _ a => absurd a h, fun _ a => absurd a h, fun _ a => absurd a h⟩

theorem clear_all {k j : ℕ} (hj : 37 ≤ j) : ∀ i, j ≤ i → i < 37 → levK k < levK (dueK i) := fun i h1 h2 => by omega
theorem clear_zero {k j : ℕ} (hk : levK k = 0) (hj : 3 ≤ j) : ∀ i, j ≤ i → i < 37 → levK k < levK (dueK i) :=
  fun i h1 h2 => by have := lev_ge.1 (hj.trans h1) h2; omega
theorem clear_bar : ∀ i, 3 ≤ i → i < 37 → levK 80 < levK (dueK i) :=
  fun i h1 h2 => by have := lev_ge.1 h1 h2; have : levK 80 = 1 := rfl; omega
theorem clear_xr {i₀ j : ℕ} (hi : i₀ < 11) (hj : 14 ≤ j) : ∀ i, j ≤ i → i < 37 → levK (23 + i₀) < levK (dueK i) :=
  fun i h1 h2 => by
    have := lev_ge.2.1 (hj.trans h1) h2
    have : levK (23 + i₀) = 2 := by unfold levK; rw [if_neg (by omega), if_pos (by omega)]
    omega
theorem clear_sum {k j : ℕ} (hk : 42 ≤ k) (hk' : k < 66) (hj : 30 ≤ j) : ∀ i, j ≤ i → i < 37 → levK k < levK (dueK i) :=
  fun i h1 h2 => by
    have := lev_ge.2.2 (hj.trans h1) h2
    have : levK k ≤ 3 := by unfold levK; split_ifs <;> omega
    omega
theorem lev_xs {i : ℕ} (hi : i < 11) : levK (12 + i) = 0 := by
  unfold levK; rw [if_neg (by omega), if_neg (by omega), if_neg (by omega), if_neg (by omega)]

/-! The dues by name. -/

theorem dueK_x {i : ℕ} (h : i < 11) : dueK (3 + i) = 23 + i := by
  unfold dueK; rw [if_neg (by omega), if_pos (by omega), Nat.add_sub_cancel_left]
theorem dueK_z {k : ℕ} (h : k < 8) : dueK (14 + 2 * k) = 42 + k := by
  unfold dueK; rw [if_neg (by omega), if_neg (by omega), if_pos (by omega), if_pos (by omega)]; omega
theorem dueK_y {k : ℕ} (h : k < 8) : dueK (15 + 2 * k) = 58 + k := by
  unfold dueK; rw [if_neg (by omega), if_neg (by omega), if_pos (by omega), if_neg (by omega)]; omega

theorem via_x {k : ℕ} (h : 23 ≤ k) (h' : k < 34) (c : Dev nD) : via k c = mirror c := if_pos ⟨h, h'⟩
theorem via_z {k : ℕ} (h : (42 ≤ k ∧ k < 50) ∨ (69 ≤ k ∧ k < 72)) (c : Dev nD) : via k c = znbr c := by
  unfold via; rw [if_neg (by omega), if_pos h]
theorem via_y {k : ℕ} (h : (58 ≤ k ∧ k < 66) ∨ (76 ≤ k ∧ k < 80)) (c : Dev nD) : via k c = ynbr c := by
  unfold via; rw [if_neg (by omega), if_neg (by omega), if_pos h]
theorem via_id {k : ℕ} (h : ¬ (23 ≤ k ∧ k < 34)) (h' : ¬ ((42 ≤ k ∧ k < 50) ∨ (69 ≤ k ∧ k < 72)))
    (h'' : ¬ ((58 ≤ k ∧ k < 66) ∨ (76 ≤ k ∧ k < 80))) (c : Dev nD) : via k c = c := by
  unfold via; rw [if_neg h, if_neg h', if_neg h'']

/-- A due past the barrier's is the amount of its cell, at the device at the cell's other end. -/
theorem owed_send (c : Dev nD) {j k : ℕ} (hj : j < 37) (h3 : 3 ≤ j) (hk : dueK j = k) :
    owed c j = owed c (j + 1) + tallyAt (cell (via k c) k) () (amt k 0) := by
  rw [owed_step c hj]; unfold dueTo dueAmt; rw [if_neg (by omega), if_neg (by omega), hk]

end Cert.AllSum

end
-- ==== Proof.Land.lean ====
/-
# Slices held, read and landed in

The rows of a buffer held as a slice's elements, what a slice reads of contents given by row and lane, and what a
copy that lands in a slice leaves there.
-/
module

public import proofs.«01_k».proof.Proof.Dues

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The views held -/

section Held
variable (c : Dev nD) (q : PosShare TreeShare) {n a : ℕ}

theorem xPts_view (p : Rows 32768 n) (ha : p.off 0 = a) (f : (Sn 32768).Idx → Elt F .f32) :
    (xPts c q a n f : sProp 𝕄) = ((xRows p).view.loc (c : Thread nD τ) ↦[(xRows p).view.set]{q} f) := by
  unfold xPts; rw [xRows_set, ha]
theorem oPts_view (p : Rows 32768 n) (ha : p.off 0 = a) (f : (Sn 32768).Idx → Elt F .bf16) :
    (oPts c q a n f : sProp 𝕄) = ((oRows p).view.loc (c : Thread nD τ) ↦[(oRows p).view.set]{q} f) := by
  unfold oPts; rw [oRows_set, ha]
theorem sPts_view (p : Rows 10912 n) (ha : p.off 0 = a) (f : (Sn 10912).Idx → Elt F .bf16) :
    (sPts c q a n f : sProp 𝕄) = ((sRows p).view.loc (c : Thread nD τ) ↦[(sRows p).view.set]{q} f) := by
  unfold sPts; rw [sRows_set, ha]
theorem rPts_view (p : Rows 10912 n) (ha : p.off 0 = a) (f : (Sn 10912).Idx → Elt F .bf16) :
    (rPts c q a n f : sProp 𝕄) = ((rRows p).view.loc (c : Thread nD τ) ↦[(rRows p).view.set]{q} f) := by
  unfold rPts; rw [rRows_set, ha]

end Held

/-! ## Equal contents -/

section Congr
variable (c : Dev nD) (q : PosShare TreeShare) (a n : ℕ)

/-- Two row functions that agree on the rows of a run are the same contents there. -/
theorem byRow_congr {N : ℕ} {α : Type} {f g : ℕ → ℕ → α} (h : ∀ x, x < n → ∀ l, f (a + x) l = g (a + x) l) :
    ∀ i ∈ rowsIn N a n, byRow f i = byRow g i := by
  intro i hi
  obtain ⟨h1, h2⟩ := mem_rowsIn.mp hi
  unfold byRow
  have := h ((i 0).val - a) (by omega) (i 1).val
  rwa [show a + ((i 0).val - a) = (i 0).val by omega] at this

theorem oPts_congr {f g : ℕ → ℕ → Elt F .bf16} (h : ∀ x, x < n → ∀ l, f (a + x) l = g (a + x) l) :
    (oPts c q a n (byRow f) : sProp 𝕄) = oPts c q a n (byRow g) := by
  unfold oPts; exact pointsTo_congr (byRow_congr a n h)
theorem sPts_congr {f g : ℕ → ℕ → Elt F .bf16} (h : ∀ x, x < n → ∀ l, f (a + x) l = g (a + x) l) :
    (sPts c q a n (byRow f) : sProp 𝕄) = sPts c q a n (byRow g) := by
  unfold sPts; exact pointsTo_congr (byRow_congr a n h)

end Congr

/-! ## Landings -/

section Landings
variable (c : Dev nD) {n a : ℕ} (f : ℕ → ℕ → Elt F .bf16)

theorem oPts_land (p : Rows 32768 n) (ha : p.off 0 = a) (fd : (Sn 32768).Idx → Elt F .bf16) (w : (Sn n).Idx → Elt F .bf16)
    (h : ∀ x : (Sn n).Idx, w x = f (a + (x 0).val) (x 1).val) :
    (((oRows p).view.loc (c : Thread nD τ) ↦[(oRows p).view.set]{fullShare} (oRows p).view.write (Elt F) fd w Finset.univ) : sProp 𝕄)
      = oPts c fullShare a n (byRow f) := by
  rw [oPts_view c fullShare p ha]
  refine pointsTo_congr (write_slice (b := main_v1) p.rect fd (byRow f) w fun x => ?_)
  rw [byRow_emb, ha]; exact h x
theorem rPts_land (p : Rows 10912 n) (ha : p.off 0 = a) (fd : (Sn 10912).Idx → Elt F .bf16) (w : (Sn n).Idx → Elt F .bf16)
    (h : ∀ x : (Sn n).Idx, w x = f (a + (x 0).val) (x 1).val) :
    (((rRows p).view.loc (c : Thread nD τ) ↦[(rRows p).view.set]{fullShare} (rRows p).view.write (Elt F) fd w Finset.univ) : sProp 𝕄)
      = rPts c fullShare a n (byRow f) := by
  rw [rPts_view c fullShare p ha]
  refine pointsTo_congr (write_slice (b := cc0_scratch1) p.rect fd (byRow f) w fun x => ?_)
  rw [byRow_emb, ha]; exact h x
/-- A store into the rows of the send buffer. -/
theorem sPts_land (p : Rows 10912 n) (ha : p.off 0 = a) (fd : (Sn 10912).Idx → Elt F .bf16) (w : (Sn n).Idx → Elt F .bf16)
    (h : ∀ x : (Sn n).Idx, w x = f (a + (x 0).val) (x 1).val) :
    (((sM.access p.rect).loc (c : Thread nD τ) ↦[(sRows p).view.set]{fullShare} (sM.access p.rect).write (Elt F) fd w Finset.univ) : sProp 𝕄)
      = sPts c fullShare a n (byRow f) := by
  rw [sPts_view c fullShare p ha]
  refine pointsTo_congr (write_slice (b := cc0_scratch0) p.rect fd (byRow f) w fun x => ?_)
  rw [byRow_emb, ha]; exact h x

/-- What a slice reads of contents given by row and lane. -/
theorem xRows_read (p : Rows 32768 n) (ha : p.off 0 = a) (g : ℕ → ℕ → Elt F .f32) (x : (Sn n).Idx) :
    (xRows p).view.read (Elt F) (byRow g) x = g (a + (x 0).val) (x 1).val := (byRow_emb p g x).trans (by rw [ha])
theorem oRows_read (p : Rows 32768 n) (ha : p.off 0 = a) (x : (Sn n).Idx) :
    (oRows p).view.read (Elt F) (byRow f) x = f (a + (x 0).val) (x 1).val := (byRow_emb p f x).trans (by rw [ha])
theorem sRows_read (p : Rows 10912 n) (ha : p.off 0 = a) (x : (Sn n).Idx) :
    (sRows p).view.read (Elt F) (byRow f) x = f (a + (x 0).val) (x 1).val := (byRow_emb p f x).trans (by rw [ha])
theorem rRows_read (p : Rows 10912 n) (ha : p.off 0 = a) (x : (Sn n).Idx) :
    (rRows p).view.read (Elt F) (byRow f) x = f (a + (x 0).val) (x 1).val := (byRow_emb p f x).trans (by rw [ha])

end Landings

/-! ## The staging buffer -/

section Staging
variable (c : Dev nD)

/-- The first `n` rows of the staging buffer as rows of it. -/
abbrev vRect (n : ℕ) (h : n ≤ 1024) : Rect (Sn 1024) :=
  Rect.unit (s := Sn 1024) ![0, 0] (Sn n).size (fun a => by fin_cases a; exacts [by simpa using h, le_refl _])

theorem vRect_set (n : ℕ) (h : n ≤ 1024) : (vRect n h).set = rowsIn 1024 0 n := by
  ext i
  rw [Rect.mem_set_unit, mem_rowsIn, Fin.forall_fin_two]
  constructor
  · rintro ⟨h, -⟩; exact h
  · intro h; exact ⟨h, Nat.zero_le _, (i 1).isLt.trans_eq (Nat.zero_add _).symm⟩

theorem vRect_emb {α : Type} (n : ℕ) (h : n ≤ 1024) (g : ℕ → ℕ → α) (x : (Sn n).Idx) :
    byRow g ((vRect n h).emb x) = g (0 + (x 0).val) (x 1).val := by
  unfold byRow
  have h0 : (((vRect n h).emb x) 0).val = 0 + (x 0).val := by show 0 + 1 * (x 0).val = _; omega
  have h1 : (((vRect n h).emb x) 1).val = (x 1).val := by show 0 + 1 * (x 1).val = _; omega
  rw [h0, h1]

/-- What a memref must do to stand for the first `n` rows of the staging buffer: to hold it is to hold them, and a copy
    into it leaves them at what was copied. -/
structure IsStage {n : ℕ} (v : Memref sig .tc .vmem (Sn n) .f32) : Prop where
  held : ∀ (c : Dev nD) (f : (Sn 1024).Idx → Elt F .f32), ∃ fd : Buf (Elt F) (v.view.loc (c : Thread nD τ)),
    (vPts c fullShare 0 n f : sProp 𝕄) = (v.view.loc (c : Thread nD τ) ↦[v.view.set]{fullShare} fd)
  land : ∀ (c : Dev nD) (fd : Buf (Elt F) (v.view.loc (c : Thread nD τ))) (w : (Sn n).Idx → Elt F .f32) (g : ℕ → ℕ → Elt F .f32),
    (∀ x : (Sn n).Idx, w x = g (0 + (x 0).val) (x 1).val) →
    ((v.view.loc (c : Thread nD τ) ↦[v.view.set]{fullShare} v.view.write (Elt F) fd w Finset.univ) : sProp 𝕄) = vPts c fullShare 0 n (byRow g)

theorem isStage_whole : IsStage (F := F) vM where
  held c f := ⟨f, by unfold vPts; rw [rowsIn_all, View.set_whole]⟩
  land c fd w g h := by
    unfold vPts
    rw [rowsIn_all, View.set_whole]
    refine pointsTo_congr fun i _ => ?_
    rw [show (vM : Memref sig .tc .vmem (Sn 1024) .f32).view.write (Elt F) fd w Finset.univ = w from View.write_whole_univ _ _ _, h]
    unfold byRow; rw [Nat.zero_add]

theorem isStage_rows (n : ℕ) (hn : n ≤ 1024) : IsStage (F := F) (vRows n hn) where
  held c f := ⟨f, by
    unfold vPts
    rw [show (vRows n hn).view.set = rowsIn 1024 0 n from (View.set_slice_whole cc0_scratch2 (vRect n hn)).trans (vRect_set n hn)]⟩
  land c fd w g h := by
    unfold vPts
    rw [← show (vRows n hn).view.set = rowsIn 1024 0 n from (View.set_slice_whole cc0_scratch2 (vRect n hn)).trans (vRect_set n hn)]
    refine pointsTo_congr (write_slice (b := cc0_scratch2) (vRect n hn) fd (byRow g) w fun x => ?_)
    rw [vRect_emb]; exact h x

end Staging

end Cert.AllSum

end
-- ==== Proof.Rules.lean ====
/-
# One rule per kind of operation

The rules of the rounds library at this protocol's cells: a remote copy pays a due and hands two cells their payloads,
a local copy one; a wait takes the payload of a cell; a signal pays a unit to a neighbour's barrier. Each is stated for
any cell, so that a step of the kernel is an application of it.
-/
module

public import proofs.«01_k».proof.Proof.Land
public import Idealize.ShloMosaic.Lib.Tactic

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-! ## What a device holds of a cell -/

/-- The device has taken rounds `0` to `r - 1` of its cell `k`. -/
def pos (c : Dev nD) (k r : ℕ) : sProp 𝕄 := atPos ER (cell c k) r ∅ 0
/-- The right to credit round `r` of cell `k` of device `c`. -/
def tok (c : Dev nD) (k r : ℕ) : sProp 𝕄 := dutyTok ER (cell c k) r 0
/-- The credit of round `r` of cell `k`, for the device's wait. -/
def cr (c : Dev nD) (k r : ℕ) : sProp 𝕄 := cred (tallyAt (cell c k) () (amt k r))
/-- The device has paid its first `j` dues. -/
def owe (c : Dev nD) (j : ℕ) : sProp 𝕄 := iprop(∃ W, owes (c : Thread nD τ) (owed c j) W)
/-- Round `r` of cell `k` is open. -/
def opened (c : Dev nD) (k r : ℕ) : sProp 𝕄 := reached ER (cell c k) r

instance opened_persistent (c : Dev nD) (k r : ℕ) : BI.Persistent (opened (F := F) c k r) := by unfold opened; infer_instance

/-- What every step may use: every cell's invariant, that every cell's first round is open, the levels. -/
def records (K : Dev nD × Fin 81 → ℕ) : sProp 𝕄 :=
  iprop((bigSep Finset.univ fun ck : Dev nD × Fin 81 => cellInv ER (Rd m) (K ck) (cell ck.1 ck.2.val))
    ∗ bigSep Finset.univ fun ck : Dev nD × Fin 81 => reached ER (cell ck.1 ck.2.val) 0)
def amb (K : Dev nD × Fin 81 → ℕ) : sProp 𝕄 := iprop(records m K ∗ levAts L lv)

instance records_persistent (K : Dev nD × Fin 81 → ℕ) : BI.Persistent (records m K) := by unfold records; infer_instance
instance amb_persistent (K : Dev nD × Fin 81 → ℕ) : BI.Persistent (amb m K) := by unfold amb; infer_instance

section Amb
variable (K : Dev nD × Fin 81 → ℕ)

theorem inv_at (ck : Dev nD × Fin 81) :
    (bigSep Finset.univ fun ck : Dev nD × Fin 81 => (cellInv ER (Rd m) (K ck) (cell ck.1 ck.2.val) : sProp 𝕄)) ⊢ cellInv ER (Rd m) (K ck) (cell ck.1 ck.2.val) :=
  bigSep_elim (Finset.mem_univ ck)
theorem opened_at (ck : Dev nD × Fin 81) :
    (bigSep Finset.univ fun ck : Dev nD × Fin 81 => (reached ER (cell ck.1 ck.2.val) 0 : sProp 𝕄)) ⊢ reached ER (cell ck.1 ck.2.val) 0 :=
  bigSep_elim (Finset.mem_univ ck)

theorem amb_inv (c : Dev nD) {k : ℕ} (hk : k < 81) : amb m K ⊢ cellInv ER (Rd m) (K (c, ⟨k, hk⟩)) (cell c k) := by
  unfold amb records
  iintro ⟨⟨H, -⟩, -⟩
  iapply (inv_at m K (c, ⟨k, hk⟩))
  iexact H
theorem amb_opened (c : Dev nD) {k : ℕ} (hk : k < 81) : amb m K ⊢ opened c k 0 := by
  unfold amb records opened
  iintro ⟨⟨-, H⟩, -⟩
  iapply (opened_at (F := F) (c, ⟨k, hk⟩))
  iexact H
theorem amb_levs : amb m K ⊢ (levAts L lv : sProp 𝕄) := by
  unfold amb; iintro ⟨-, H⟩; iexact H

end Amb

/-- The program `p` on device `c` ends in `Q`. -/
abbrev run (c : Dev nD) (p : P F) (Q : PUnit.{1} → sProp 𝕄) : sProp 𝕄 :=
  wp frame (wpE (defs₀ (F := F)) 𝒱₀ (c : Thread nD τ) none) Set.univ p Q

theorem cell_dma (c : Dev nD) (k : Fin 80) : cell c k.val = ((c : Thread nD τ), (SemLoc.dma k : SemLoc sig)) := by
  unfold cell; rw [sm_dma k.isLt]
theorem cell_bar (c : Dev nD) : cell c 80 = ((c : Thread nD τ), (SemLoc.reg barS : SemLoc sig)) := by
  unfold cell; rw [sm_bar]

/-! ## The rules -/

section Rules
variable (K : Dev nD × Fin 81 → ℕ) (c : Dev nD) {Q : PUnit.{1} → sProp (MT nD τ sig Unit (Elt F) ℕ UU ℕ)}

/-- A remote copy: it pays due `j`, which is to cell `kr` of the device there; the landing makes that cell's payload, and
    what is read makes the payload of the own cell `ks`. -/
theorem send_due {e : Dev nD} {sp sp' : Space} {s : Shape} {el : EltTy} {src : Memref sig .tc sp s el} {dst : Memref sig .tc sp' s el}
    {ks kr : Fin 80} {hsc : dst.view.ref.isScScratch = false} {hsrc : src.view.WordExact} {hdst : dst.view.WordExact}
    {hsem : DmaTarget.Typed sp (.dma kr) (.remote (Dev.tc e : Thread nD τ) dst (.dma ks) hsc)}
    {k : PUnit → P F} {q : PosShare TreeShare} {fs : Buf (Elt F) (src.view.loc (c : Thread nD τ))} {fd : Buf (Elt F) (dst.view.loc (e : Thread nD τ))}
    (hks : 1 ≤ ks.val) (hkr : 1 ≤ kr.val) {j : ℕ} (hj : j < 37) (h3 : 3 ≤ j) (hd : dueK j = kr.val) (he : via kr.val c = e)
    (hN : dst.view.dmaCredit = amt kr.val 0) (hNs : amt ks.val 0 = amt kr.val 0)
    (hp₁ : (src.view.loc (c : Thread nD τ) ↦[src.view.set]{q} fs) ⊢ pay m c ks.val 0)
    (hp₂ : (dst.view.loc (e : Thread nD τ) ↦[dst.view.set]{fullShare} (dst.view.write (Elt F) fd (src.view.read (Elt F) fs) Finset.univ)) ⊢ pay m e kr.val 0) :
    iprop(amb m K ∗ (src.view.loc (c : Thread nD τ) ↦[src.view.set]{q} fs) ∗ (dst.view.loc (e : Thread nD τ) ↦[dst.view.set]{fullShare} fd)
        ∗ owe c j ∗ tok c ks.val 0 ∗ tok e kr.val 0)
      ⊢ iprop(((cr c ks.val 0 ∗ owe c (j + 1)) -∗ run c (k ⟨⟩) Q)
          -∗ run c (.op (.enqueueDma src (.remote (Dev.tc e : Thread nD τ) dst (.dma ks) hsc) (.dma kr) hsrc hdst hsem) k) Q) := by
  subst he
  have hrs : HasRound ks.val 0 := by unfold HasRound; rw [if_neg (by omega)]
  have hrr : HasRound kr.val 0 := by unfold HasRound; rw [if_neg (by omega)]
  unfold owe tok cr
  iintro ⟨#Ha, Hs, Hd, ⟨%W, HO⟩, Hts, Htr⟩ Hk
  ihave #HIs := (amb_inv m K c (k := ks.val) (by omega)) $$ Ha
  ihave #HIr := (amb_inv m K (via kr.val c) (k := kr.val) (by omega)) $$ Ha
  ihave #HRs := (amb_opened m K c (k := ks.val) (by omega)) $$ Ha
  ihave #HRr := (amb_opened m K (via kr.val c) (k := kr.val) (by omega)) $$ Ha
  unfold opened
  have d₁ := duties_dma m c ks.isLt hrs
  have d₂ := duties_dma m (via kr.val c) kr.isLt hrr
  have a₁ := amount_dma m c (r := 0) ks.isLt 0
  have a₂ := amount_dma m (via kr.val c) (r := 0) kr.isLt 0
  have p₁ := payload_dma m c (r := 0) ks.isLt 0
  have p₂ := payload_dma m (via kr.val c) (r := 0) kr.isLt 0
  have ho := owed_send c hj h3 hd
  rw [cell_dma] at d₁ d₂ a₁ a₂ p₁ p₂ ho
  rw [cell_dma c ks, cell_dma (via kr.val c) kr]
  iapply (Rounds.wp_send_pointsTo 𝒱₀ ER (Rd m) (c : Thread nD τ) none (κ₁ := K (c, ⟨ks.val, by omega⟩)) (κ₂ := K (via kr.val c, ⟨kr.val, by omega⟩))
      (r₁ := 0) (r₂ := 0) (d₁ := 0) (d₂ := 0) (fs := fs) (fd := fd) (q := q)
      (by rw [d₁]; exact Finset.mem_singleton_self _) (by rw [d₂]; exact Finset.mem_singleton_self _)
      () () (amt kr.val 0) (show dst.view.amount (SemLoc.dma kr : SemLoc sig) = _ from hN) (a₁.trans hNs) a₂ (owed c (j + 1)) ho (W := W) (by rw [p₁]; exact hp₁) (by rw [p₂]; exact hp₂)) $$ [Hs Hd HO Hts Htr]
  · isplitr; · iexact HIs
    isplitr; · iexact HIr
    isplitl [Hs]; · iexact Hs
    isplitl [Hd]; · iexact Hd
    isplitl [HO]; · iexact HO
    isplitl [Hts]; · iexact Hts
    isplitr; · iexact HRs
    isplitl [Htr]; · iexact Htr
    iexact HRr
  iintro ⟨Hc, HO⟩
  iapply Hk
  isplitl [Hc]; · rw [hNs]; iexact Hc
  iexists W; iexact HO

/-- A local copy: its end makes the payload of round `r` of the own cell `ks`. -/
theorem copy_local {sp sp' : Space} {s : Shape} {el : EltTy} {src : Memref sig .tc sp s el} {dst : Memref sig .tc sp' s el}
    {ks : Fin 80} {hsrc : src.view.WordExact} {hdst : dst.view.WordExact}
    {hsem : DmaTarget.Typed (nD := nD) (τ := τ) (sig := sig) (p := .tc) sp (.dma ks) (.here dst)}
    {k : PUnit → P F} {q : PosShare TreeShare} {fs : Buf (Elt F) (src.view.loc (c : Thread nD τ))} {fd : Buf (Elt F) (dst.view.loc (c : Thread nD τ))}
    {r : ℕ} (hr : HasRound ks.val r) (hN : dst.view.dmaCredit = amt ks.val r)
    (hp : iprop((dst.view.loc (c : Thread nD τ) ↦[dst.view.set]{fullShare} (dst.view.write (Elt F) fd (src.view.read (Elt F) fs) Finset.univ))
      ∗ (src.view.loc (c : Thread nD τ) ↦[src.view.set]{q} fs)) ⊢ pay m c ks.val r) :
    iprop(amb m K ∗ opened c ks.val r ∗ (src.view.loc (c : Thread nD τ) ↦[src.view.set]{q} fs)
        ∗ (dst.view.loc (c : Thread nD τ) ↦[dst.view.set]{fullShare} fd) ∗ tok c ks.val r)
      ⊢ iprop((cr c ks.val r -∗ run c (k ⟨⟩) Q) -∗ run c (.op (.enqueueDma src (.here dst) (.dma ks) hsrc hdst hsem) k) Q) := by
  unfold tok cr opened
  iintro ⟨#Ha, #HR, Hs, Hd, Ht⟩ Hk
  ihave #HI := (amb_inv m K c (k := ks.val) (by omega)) $$ Ha
  have d₁ := duties_dma m c ks.isLt hr
  have a₁ := amount_dma m c (r := r) ks.isLt 0
  have p₁ := payload_dma m c (r := r) ks.isLt 0
  rw [cell_dma] at d₁ a₁ p₁
  rw [cell_dma c ks]
  iapply (Rounds.wp_copy_pointsTo 𝒱₀ ER (Rd m) (c : Thread nD τ) none (κ := K (c, ⟨ks.val, by omega⟩)) (r := r) (d := 0) (fs := fs) (fd := fd) (q := q)
      (by rw [d₁]; exact Finset.mem_singleton_self _) () (amt ks.val r) (show dst.view.amount (SemLoc.dma ks : SemLoc sig) = _ from hN) a₁ (by rw [p₁]; exact hp)) $$ [Hs Hd Ht]
  · isplitr; · iexact HI
    isplitl [Hs]; · iexact Hs
    isplitl [Hd]; · iexact Hd
    isplitl [Ht]; · iexact Ht
    iexact HR
  iexact Hk

/-- A wait for a copy: it takes the payload of round `r` of cell `ks`, all the cells still owed to being above it. -/
theorem wait_copy {sp sp' : Space} {s s' : Shape} {el el' : EltTy} {src : Memref sig .tc sp s el} {dst : Memref sig .tc sp' s' el'}
    {ks : Fin 80} {hsrc : src.view.WordExact} {hdst : dst.view.WordExact} {k : PUnit → P F}
    {r j : ℕ} (hr : HasRound ks.val r) (hN : dst.view.dmaCredit = amt ks.val r)
    (hlev : ∀ i, j ≤ i → i < 37 → levK ks.val < levK (dueK i)) :
    iprop(amb m K ∗ cr c ks.val r ∗ owe c j ∗ pos c ks.val r)
      ⊢ iprop(((owe c j ∗ pos c ks.val (r + 1) ∗ opened c ks.val (r + 1) ∗ pay m c ks.val r) -∗ run c (k ⟨⟩) Q)
          -∗ run c (.op (.waitDma2 ks src dst hsrc hdst) k) Q) := by
  unfold cr owe pos opened
  iintro ⟨#Ha, Hc, ⟨%W, HO⟩, Hp⟩ Hk
  ihave #HI := (amb_inv m K c (k := ks.val) (by omega)) $$ Ha
  ihave Hlev := (amb_levs m K) $$ Ha
  ihave HM := (may_wait (F := F) c (k := ks.val) (j := j) (by omega) hlev) $$ Hlev
  have e₁ := expect_dma m c ks.isLt hr
  have r₁ := rest_dma m c ks.isLt hr
  rw [cell_dma] at e₁ r₁
  rw [cell_dma c ks, sm_dma ks.isLt]
  iapply (Rounds.wp_wait_rest_token 𝒱₀ ER (Rd m) (c : Thread nD τ) none (κ := K (c, ⟨ks.val, by omega⟩))
      (wpE_waitDma2_eq 𝒱₀ (c : Thread nD τ) none Set.univ) (Set.mem_univ _) () (O := owed c j) (W := W) (R := r) (m := 0) (T := ∅)
      (by rw [e₁, Nat.zero_add]; exact hN)) $$ [Hc HO HM Hp]
  · isplitr; · iexact HI
    isplitl [Hc]; · rw [hN]; iexact Hc
    isplitl [HO]; · iexact HO
    isplitl [HM]; · iexact HM
    iexact Hp
  iintro ⟨HO, Hp, Ho, Hpay⟩
  iapply Hk
  isplitl [HO]; · iexists _; iexact HO
  isplitl [Hp]; · iexact Hp
  isplitl [Ho]; · iexact Ho
  iapply (Entails.of_eq r₁); iexact Hpay

/-- A unit for a neighbour's barrier: it pays due `j`, with what the neighbour is to be handed. -/
theorem signal_due {e : Dev nD} {k : PUnit → P F} {j : Fin 3} (he : barTo j.val c = e) :
    iprop(amb m K ∗ owe c j.val ∗ dutyTok ER (cell e 80) 0 j ∗ barPay m e j)
      ⊢ iprop((owe c (j.val + 1) -∗ run c (k ⟨⟩) Q) -∗ run c (.op (.semSignal (Dev.tc e : Thread nD τ) barS 1) k) Q) := by
  subst he
  unfold owe
  iintro ⟨#Ha, ⟨%W, HO⟩, Ht, Hpay⟩ Hk
  ihave #HI := (amb_inv m K (barTo j.val c) (k := 80) (by omega)) $$ Ha
  ihave #HR := (amb_opened m K (barTo j.val c) (k := 80) (by omega)) $$ Ha
  unfold opened
  have ho : owed c j.val = owed c (j.val + 1) + tallyAt (cell (barTo j.val c) 80) () 1 := by
    rw [owed_step c (show j.val < 37 by omega)]; unfold dueTo dueAmt dueK; rw [if_pos j.isLt, if_pos j.isLt, if_pos j.isLt]
  have d₁ := duties_bar m (barTo j.val c)
  have a₁ := amount_bar m (barTo j.val c) (r := 0) j
  have p₁ := payload_bar m (barTo j.val c) (r := 0) j
  rw [cell_bar] at d₁ a₁ p₁ ho
  rw [cell_bar]
  iapply (Rounds.wp_signal 𝒱₀ ER (Rd m) (c : Thread nD τ) none (dst := (barTo j.val c : Thread nD τ)) (κ := K (barTo j.val c, ⟨80, by omega⟩)) (r := 0)
      (d := j) (by rw [d₁]; exact Finset.mem_univ _) a₁ () (owed c (j.val + 1)) ho (W := W)) $$ [HO Ht Hpay]
  · isplitr; · iexact HI
    isplitl [HO]; · iexact HO
    isplitl [Ht]; · iexact Ht
    isplitl [Hpay]; · iapply (Entails.of_eq p₁.symm); iexact Hpay
    iexact HR
  iintro HO
  iapply Hk
  iexists W; iexact HO

/-- The wait for the three neighbours' units: it takes the barrier cell's three payloads. -/
theorem wait_bar {k : PUnit → P F} :
    iprop(amb m K ∗ cred (tallyAt (cell c 80) () 3) ∗ owe c 3 ∗ pos c 80 0)
      ⊢ iprop(((owe c 3 ∗ pos c 80 1 ∗ barPay m c 0 ∗ barPay m c 1 ∗ barPay m c 2) -∗ run c (k ⟨⟩) Q)
          -∗ run c (.op (.semWait barS 3) k) Q) := by
  unfold owe pos
  iintro ⟨#Ha, Hc, ⟨%W, HO⟩, Hp⟩ Hk
  ihave #HI := (amb_inv m K c (k := 80) (by omega)) $$ Ha
  ihave Hlev := (amb_levs m K) $$ Ha
  ihave HM := (may_wait (F := F) c (k := 80) (j := 3) (by omega) clear_bar) $$ Hlev
  have e₁ := expect_bar m c
  have r₁ := rest_bar m c
  rw [cell_bar] at e₁ r₁
  rw [cell_bar, sm_bar]
  iapply (Rounds.wp_wait_rest_token 𝒱₀ ER (Rd m) (c : Thread nD τ) none (κ := K (c, ⟨80, by omega⟩))
      (wpE_semWait_eq 𝒱₀ (c : Thread nD τ) none Set.univ) (Set.mem_univ _) () (O := owed c 3) (W := W) (R := 0) (m := 0) (T := ∅)
      (by rw [e₁])) $$ [Hc HO HM Hp]
  · isplitr; · iexact HI
    isplitl [Hc]; · iexact Hc
    isplitl [HO]; · iexact HO
    isplitl [HM]; · iexact HM
    iexact Hp
  iintro ⟨HO, Hp, -, Hpay⟩
  iapply Hk
  isplitl [HO]; · iexists _; iexact HO
  isplitl [Hp]; · iexact Hp
  iapply (Entails.of_eq r₁); iexact Hpay

/-- A DMA cell all of whose rounds are taken is at zero. -/
theorem close_dma {k r : ℕ} (hk : k < 80) (hr : ∀ r', r ≤ r' → ¬ HasRound k r') : iprop(amb m K ∗ pos c k r) ⊢ |={Set.univ}=> semVal (cell c k) 0 := by
  unfold pos
  iintro ⟨#Ha, Hp⟩
  ihave #HI := (amb_inv m K c (k := k) (by omega)) $$ Ha
  iapply (Rounds.cell_close ER (Rd m) (Set.mem_univ (K (c, ⟨k, by omega⟩))) (fun h => h) (R := r) (fun r' h => duties_none m c hk (hr r' h)))
  isplitr; · iexact HI
  iexact Hp
/-- So is the barrier cell. -/
theorem close_bar : iprop(amb m K ∗ pos c 80 1) ⊢ |={Set.univ}=> semVal (cell c 80) 0 := by
  unfold pos
  iintro ⟨#Ha, Hp⟩
  ihave #HI := (amb_inv m K c (k := 80) (by omega)) $$ Ha
  iapply (Rounds.cell_close ER (Rd m) (Set.mem_univ (K (c, ⟨80, by omega⟩))) (fun h => h) (R := 1) (fun r' h => duties_bar_none m c h))
  isplitr; · iexact HI
  iexact Hp

end Rules

end Cert.AllSum

end
-- ==== Proof.Stage.lean ====
/-
# A chunk cast and sent, a chunk summed

The two halves of the exchange with the mirror, for any chunk: the rows are staged, cast and sent; later the mirror's
rows are there and the sum replaces the cast.
-/
module

public import proofs.«01_k».proof.Proof.Rules
public import Idealize.ShloMosaic.Lib.Pipeline.Value

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What the copies credit -/

theorem xRows_credit {n : ℕ} (p : Rows 32768 n) : (xRows p).view.dmaCredit = credF n := rfl
theorem oRows_credit {n : ℕ} (p : Rows 32768 n) : (oRows p).view.dmaCredit = credB n := rfl
theorem sRows_credit {n : ℕ} (p : Rows 10912 n) : (sRows p).view.dmaCredit = credB n := rfl
theorem rRows_credit {n : ℕ} (p : Rows 10912 n) : (rRows p).view.dmaCredit = credB n := rfl
theorem vM_credit : (vM : Memref sig .tc .vmem (Sn 1024) .f32).view.dmaCredit = credF 1024 := rfl
theorem vRows_credit (n : ℕ) (h : n ≤ 1024) : (vRows n h).view.dmaCredit = credF n := rfl

theorem hasRound_one {k : ℕ} (h : 1 ≤ k) : HasRound k 0 := by unfold HasRound; rw [if_neg (by omega)]
theorem hasRound_load {r : ℕ} (h : r < 11) : HasRound 0 r := by unfold HasRound; rw [if_pos rfl]; exact h

/-! ## The values -/

theorem castV_apply {n : ℕ} (v : Vec F (Sn n) .f32) (x : (Sn n).Idx) :
    castV v x = FloatOps.truncf .bf16 bitsLt_bf16_f32 (v x) := by
  unfold castV; rw [shapeCast_self]; rfl
theorem sumV_apply {n : ℕ} (v w : Vec F (Sn n) .bf16) (x : (Sn n).Idx) :
    sumV v w x = FloatOps.truncf .bf16 bitsLt_bf16_f32 (FloatOps.addf (FloatOps.extf .f32 bitsLt_bf16_f32 (v x)) (FloatOps.extf .f32 bitsLt_bf16_f32 (w x))) := by
  unfold sumV; rw [shapeCast_self]; rfl

/-! ## Parts of the argument and of the staging buffer -/

theorem xPts_mid (c : Dev nD) (q : PosShare TreeShare) (a n : ℕ) (h : a + n ≤ 32768) (f : (Sn 32768).Idx → Elt F .f32) :
    (xPts c q 0 32768 f : sProp 𝕄) = iprop(xPts c q 0 a f ∗ xPts c q a n f ∗ xPts c q (a + n) (32768 - (a + n)) f) := by
  have h1 := xPts_add c q 0 a (32768 - a) f
  rw [show a + (32768 - a) = 32768 by omega] at h1
  have h2 := xPts_add c q (0 + a) n (32768 - (a + n)) f
  rw [show n + (32768 - (a + n)) = 32768 - a by omega] at h2
  rw [h1, h2, Nat.zero_add]

theorem vPts_split (c : Dev nD) (n : ℕ) (h : n ≤ 1024) (f : (Sn 1024).Idx → Elt F .f32) :
    (vPts c fullShare 0 1024 f : sProp 𝕄) = iprop(vPts c fullShare 0 n f ∗ vPts c fullShare n (1024 - n) f) := by
  have h1 := vPts_add c fullShare 0 n (1024 - n) f
  rw [show n + (1024 - n) = 1024 by omega, Nat.zero_add] at h1
  exact h1
theorem vPts_join (c : Dev nD) (n : ℕ) (h : n ≤ 1024) (f g : (Sn 1024).Idx → Elt F .f32) :
    iprop(vPts c fullShare 0 n f ∗ vPts c fullShare n (1024 - n) g) ⊢ (iprop(∃ f', vPts c fullShare 0 1024 f') : sProp 𝕄) := by
  unfold vPts
  iintro H
  iexists _
  ihave H := (pointsTo_join (rowsIn_disjoint (N := 1024) (a := 0) (n := n) (b := n) (m := 1024 - n) (.inl (by omega)))) $$ H
  rw [show rowsIn 1024 0 1024 = rowsIn 1024 0 n ∪ rowsIn 1024 n (1024 - n) by
    have := rowsIn_add 1024 0 n (1024 - n); rwa [show n + (1024 - n) = 1024 by omega, Nat.zero_add] at this]
  iexact H

section Steps
variable (m : (ℓ : Loc nD τ sig) → Buf (Elt F) ℓ) (K : Dev nD × Fin 81 → ℕ) (c : Dev nD)
variable {Q : PUnit.{1} → sProp (MT nD τ sig Unit (Elt F) ℕ UU ℕ)}

/-- What staging a chunk uses and gives back, after `i` chunks. -/
def staging (i j : ℕ) : sProp 𝕄 :=
  iprop(owe c j ∗ pos c 0 i ∗ opened c 0 i ∗ (∃ f, vPts c fullShare 0 1024 f) ∗ xPts c fullShare 0 32768 (xAll m c))

/-- Chunk `i` is staged, cast and stored. -/
theorem load_run {i j n : ℕ} (hi : i < 11) (hj : 3 ≤ j) (hlen : n = chunkLen i) (hn : 0 < n) (h1024 : n ≤ 1024)
    {v : Memref sig .tc .vmem (Sn n) .f32} (hv : v.view.WordExact) (hst : IsStage (F := F) v) (hvc : v.view.dmaCredit = credF n)
    {p : Rows 32768 n} (hp : p.off 0 = grow c (1024 * i)) {b : Rows 10912 n} (hb : b.rect.PackedRows (EltTy.packing .bf16))
    (hoff : b.off 0 = 1024 * i) {k : P F} :
    iprop(amb m K ∗ staging m c i j ∗ tok c 0 i ∗ ∃ f, sPts c fullShare (1024 * i) n f)
      ⊢ iprop(((staging m c (i + 1) j ∗ sPts c fullShare (1024 * i) n (stX m c)) -∗ run c k Q)
          -∗ run c (load hn h1024 v hv p b hb k) Q) := by
  have hpi : p.off 0 + n ≤ 32768 := p.inb 0
  rw [hp] at hpi
  unfold load staging
  rw [xPts_mid c fullShare _ n hpi (xAll m c)]
  iintro ⟨#Ha, ⟨HO, Hpos, #Hop, ⟨%fv, Hv⟩, Hx0, Hx, Hx1⟩, Ht, ⟨%fs, Hs⟩⟩ Hk
  ihave Hv := (Entails.of_eq (vPts_split c n h1024 fv)) $$ Hv
  icases Hv with ⟨Hv, Hv'⟩
  obtain ⟨fd, hfd⟩ := hst.held c fv
  ihave Hv := (Entails.of_eq hfd) $$ Hv
  ihave Hx := (Entails.of_eq (xPts_view c fullShare p hp (xAll m c))) $$ Hx
  iapply (copy_local m K c (ks := loadS) (r := i) (q := fullShare) (fs := xAll m c) (fd := fd) (hasRound_load hi)
      (hvc.trans (by rw [hlen]; rfl))
      (by
        show _ ⊢ pay m c 0 i
        rw [pay_load, ← hlen, xPts_view c fullShare p hp (xAll m c)]
        unfold vstX
        rw [hst.land c fd _ (fun r => xIn m c (grow c (1024 * i) + r)) (fun x => by
          rw [xAll_eq, xRows_read p hp, Nat.zero_add])])) $$ [Hx Hv Ht]
  · isplitr; · iexact Ha
    isplitr; · iexact Hop
    isplitl [Hx]; · iexact Hx
    isplitl [Hv]; · iexact Hv
    iexact Ht
  iintro Hc
  iapply (wait_copy m K c (ks := loadS) (r := i) (j := j) (hasRound_load hi)
      (hvc.trans (by rw [hlen]; rfl)) (clear_zero (by decide) hj)) $$ [Hc HO Hpos]
  · isplitr; · iexact Ha
    isplitl [Hc]; · iexact Hc
    isplitl [HO]; · iexact HO
    iexact Hpos
  iintro ⟨HO, Hpos, #Hop', Hpay⟩
  ihave Hpay := (Entails.of_eq (pay_load m c i)) $$ Hpay
  rw [← hlen]
  icases Hpay with ⟨Hv, Hx⟩
  ihave Hv := (Entails.of_eq (show vPts c fullShare 0 n (vstX m c i) = _ from by unfold vPts; rfl)) $$ Hv
  iapply (wp_load_rect 𝒱₀ (c : Thread nD τ) none Set.univ (m := vM) (r := vRect n h1024) (S := rowsIn 1024 0 n) (q := fullShare)
      (f := vstX m c i) (by rw [View.set_slice_whole]; exact (vRect_set n h1024).subset)) $$ [Hv]
  · iexact Hv
  iintro Hv
  unfold sPts
  iapply (wp_load_rect 𝒱₀ (c : Thread nD τ) none Set.univ (m := sM) (r := b.rect) (S := rowsIn 10912 (1024 * i) n) (q := fullShare)
      (f := fs) (by rw [View.set_slice_whole, b.rect_set, hoff])) $$ [Hs]
  · iexact Hs
  iintro Hs
  iapply (wp_store 𝒱₀ (c : Thread nD τ) none Set.univ (m := sM) (r := b.rect) (Mk := Finset.univ) (S := rowsIn 10912 (1024 * i) n)
      (f := fs) (by rw [View.setOn_univ, View.set_slice_whole, b.rect_set, hoff])) $$ [Hs]
  · iexact Hs
  iintro Hs
  iapply Hk
  isplitr [Hs]
  · isplitl [HO]; · iexact HO
    isplitl [Hpos]; · iexact Hpos
    isplitr; · iexact Hop'
    isplitl [Hv Hv']
    · iapply (vPts_join c n h1024 (vstX m c i) fv)
      unfold vPts
      isplitl [Hv]; · iexact Hv
      iexact Hv'
    · isplitl [Hx0]; · iexact Hx0
      isplitl [Hx]; · iexact Hx
      iexact Hx1
  · have h := sPts_land (F := F) c (fun r => xCast m c (grow c r)) b hoff fs (castV ((vM.access (vRect n h1024)).read (Elt F) (vstX m c i))) (fun x => by
      have hx : (x 0).val < n := (x 0).isLt
      rw [castV_apply, grow_add c i (x 0).val n hi (by omega)]
      unfold xCast
      have hv0 : (vM.access (vRect n h1024)).read (Elt F) (vstX m c i) x = xIn m c (grow c (1024 * i) + (0 + (x 0).val)) (x 1).val :=
        vRect_emb n h1024 (fun r => xIn m c (grow c (1024 * i) + r)) x
      rw [hv0, Nat.zero_add])
    rw [sRows_set, hoff] at h
    unfold stX
    unfold sPts at h
    rw [← h]
    iexact Hs

/-- Chunk `i` starts for the mirror. -/
theorem sendX_run {i n : ℕ} (hi : i < 11) (hlen : n = chunkLen i) {b : Rows 10912 n} (hoff : b.off 0 = 1024 * i) {k : P F} :
    iprop(amb m K ∗ owe c (3 + i) ∗ sPts c fullShare (1024 * i) n (stX m c) ∗ tok c (12 + i) 0 ∗ tok (mirror c) (23 + i) 0
        ∗ ∃ f, rPts (mirror c) fullShare (1024 * i) n f)
      ⊢ iprop(((owe c (3 + (i + 1)) ∗ cr c (12 + i) 0) -∗ run c k Q) -∗ run c (sendX c ⟨i, hi⟩ b k) Q) := by
  unfold sendX
  iintro ⟨#Ha, HO, Hs, Ht, Ht', ⟨%fr, Hr⟩⟩ Hk
  ihave Hs := (Entails.of_eq (sPts_view c fullShare b hoff (stX m c))) $$ Hs
  ihave Hr := (Entails.of_eq (rPts_view (mirror c) fullShare b hoff fr)) $$ Hr
  iapply (send_due m K c (e := mirror c) (ks := xsS ⟨i, hi⟩) (kr := xrS ⟨i, hi⟩) (q := fullShare) (fs := stX m c) (fd := fr)
      (show 1 ≤ 12 + i by omega) (show 1 ≤ 23 + i by omega) (j := 3 + i) (by omega) (by omega) (dueK_x hi)
      (via_x (k := 23 + i) (by omega) (by omega) c)
      ((rRows_credit b).trans (by rw [hlen]; exact (amt_xr hi).symm)) ((amt_xs hi).trans (amt_xr hi).symm)
      (by
        show _ ⊢ pay m c (12 + i) 0
        rw [pay_xs m c hi, ← hlen, sPts_view c fullShare b hoff (stX m c)])
      (by
        show _ ⊢ pay m (mirror c) (23 + i) 0
        rw [pay_xr m (mirror c) hi, ← hlen]
        unfold rcX
        rw [rPts_land (F := F) (mirror c) (fun r => xCast m (mirror (mirror c)) (grow (mirror c) r)) b hoff fr _ (fun x => by
          unfold stX
          rw [sRows_read (F := F) (fun r => xCast m c (grow c r)) b hoff x, mirror_mirror, grow_mirror])])) $$ [HO Hs Hr Ht Ht']
  · isplitr; · iexact Ha
    isplitl [Hs]; · iexact Hs
    isplitl [Hr]; · iexact Hr
    isplitl [HO]; · iexact HO
    isplitl [Ht]; · iexact Ht
    iexact Ht'
  iintro ⟨Hc, HO⟩
  iapply Hk
  isplitl [HO]; · iexact HO
  iexact Hc

/-- Chunk `i` is there from the mirror, the own chunk is sent, and their sum is stored. -/
theorem addX_run {i j n : ℕ} (hi : i < 11) (hj : 14 ≤ j) (hlen : n = chunkLen i) (hn : 0 < n) {b : Rows 10912 n}
    (hb : b.rect.PackedRows (EltTy.packing .bf16)) (hoff : b.off 0 = 1024 * i) {k : P F} :
    iprop(amb m K ∗ owe c j ∗ (pos c (23 + i) 0 ∗ cr c (23 + i) 0) ∗ (pos c (12 + i) 0 ∗ cr c (12 + i) 0))
      ⊢ iprop(((owe c j ∗ pos c (23 + i) 1 ∗ pos c (12 + i) 1 ∗ rPts c fullShare (1024 * i) n (rcX m c)
            ∗ sPts c fullShare (1024 * i) n (suX m c)) -∗ run c k Q) -∗ run c (addX ⟨i, hi⟩ hn b hb k) Q) := by
  have h1024 : n ≤ 1024 := by rw [hlen]; unfold chunkLen; split <;> omega
  have hbi : b.off 0 + n ≤ 10912 := b.inb 0
  rw [hoff] at hbi
  unfold addX
  iintro ⟨#Ha, HO, ⟨Hpr, Hcr⟩, ⟨Hps, Hcs⟩⟩ Hk
  iapply (wait_copy m K c (ks := xrS ⟨i, hi⟩) (r := 0) (j := j) (hasRound_one (show 1 ≤ 23 + i by omega))
      ((rRows_credit b).trans (by rw [hlen]; exact (amt_xr hi).symm)) (clear_xr hi hj)) $$ [Hcr HO Hpr]
  · isplitr; · iexact Ha
    isplitl [Hcr]; · iexact Hcr
    isplitl [HO]; · iexact HO
    iexact Hpr
  iintro ⟨HO, Hpr, -, Hr⟩
  ihave Hr := (Entails.of_eq (pay_xr m c hi)) $$ Hr
  iapply (wait_copy m K c (ks := xsS ⟨i, hi⟩) (r := 0) (j := j) (hasRound_one (show 1 ≤ 12 + i by omega))
      ((sRows_credit b).trans (by rw [hlen]; exact (amt_xs hi).symm)) (clear_zero (lev_xs hi) (by omega))) $$ [Hcs HO Hps]
  · isplitr; · iexact Ha
    isplitl [Hcs]; · iexact Hcs
    isplitl [HO]; · iexact HO
    iexact Hps
  iintro ⟨HO, Hps, -, Hs⟩
  ihave Hs := (Entails.of_eq (pay_xs m c hi)) $$ Hs
  rw [← hlen]
  ihave Hs := (Entails.of_eq (show sPts c fullShare (1024 * i) n (stX m c) = _ from by unfold sPts; rfl)) $$ Hs
  ihave Hr := (Entails.of_eq (show rPts c fullShare (1024 * i) n (rcX m c) = _ from by unfold rPts; rfl)) $$ Hr
  iapply (wp_load_rect 𝒱₀ (c : Thread nD τ) none Set.univ (m := sM) (r := b.rect) (S := rowsIn 10912 (1024 * i) n) (q := fullShare)
      (f := stX m c) (by rw [View.set_slice_whole, b.rect_set, hoff])) $$ [Hs]
  · iexact Hs
  iintro Hs
  iapply (wp_load_rect 𝒱₀ (c : Thread nD τ) none Set.univ (m := rM) (r := b.rect) (S := rowsIn 10912 (1024 * i) n) (q := fullShare)
      (f := rcX m c) (by rw [View.set_slice_whole, b.rect_set, hoff])) $$ [Hr]
  · iexact Hr
  iintro Hr
  iapply (wp_load_rect 𝒱₀ (c : Thread nD τ) none Set.univ (m := sM) (r := b.rect) (S := rowsIn 10912 (1024 * i) n) (q := fullShare)
      (f := stX m c) (by rw [View.set_slice_whole, b.rect_set, hoff])) $$ [Hs]
  · iexact Hs
  iintro Hs
  iapply (wp_store 𝒱₀ (c : Thread nD τ) none Set.univ (m := sM) (r := b.rect) (Mk := Finset.univ) (S := rowsIn 10912 (1024 * i) n)
      (f := stX m c) (by rw [View.setOn_univ, View.set_slice_whole, b.rect_set, hoff])) $$ [Hs]
  · iexact Hs
  iintro Hs
  iapply Hk
  isplitl [HO]; · iexact HO
  isplitl [Hpr]; · iexact Hpr
  isplitl [Hps]; · iexact Hps
  isplitl [Hr]
  · unfold rPts; iexact Hr
  · have h := sPts_land (F := F) c (fun r => outV m c (grow c r)) b hoff (stX m c)
      (sumV ((sM.access b.rect).read (Elt F) (stX m c)) ((rM.access b.rect).read (Elt F) (rcX m c))) (fun x => by
      have hx : (x 0).val < n := (x 0).isLt
      rw [sumV_apply, outV_grow m c _ _ (by omega)]
      have h1 : (sM.access b.rect).read (Elt F) (stX m c) x = _ := sRows_read (F := F) (fun r => xCast m c (grow c r)) b hoff x
      have h2 : (rM.access b.rect).read (Elt F) (rcX m c) x = _ := rRows_read (F := F) (fun r => xCast m (mirror c) (grow c r)) b hoff x
      rw [h1, h2]; rfl)
    rw [sRows_set, hoff] at h
    unfold suX
    unfold sPts at h ⊢
    rw [← h]
    iexact Hs

end Steps

end Cert.AllSum

end
-- ==== Proof.Family.lean ====
/-
# Families and repeated steps

A family of resources counted from zero, and the rule for a step done `n` times: each round uses its member of one
family and leaves its member of another, and hands a running state on.
-/
module

public import proofs.«01_k».proof.Proof.Stage

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The members `0` to `n - 1` of a family. -/
def fam (n : ℕ) (Φ : ℕ → sProp (MT nD τ sig Unit (Elt F) ℕ UU ℕ)) : sProp (MT nD τ sig Unit (Elt F) ℕ UU ℕ) :=
  bigSep Finset.univ fun i : Fin n => Φ i.val

section Fam
variable (Φ Ψ : ℕ → sProp (MT nD τ sig Unit (Elt F) ℕ UU ℕ))

theorem sep_emp_eq (P : sProp 𝕄) : iprop(P ∗ emp) = P := Entails.antisymm (sep_emp (PROP := sProp 𝕄)).1 (sep_emp (PROP := sProp 𝕄)).2
theorem emp_sep_eq (P : sProp 𝕄) : iprop(emp ∗ P) = P := Entails.antisymm (emp_sep (PROP := sProp 𝕄)).1 (emp_sep (PROP := sProp 𝕄)).2
theorem sep_assoc_eq (P R S : sProp 𝕄) : iprop((P ∗ R) ∗ S) = iprop(P ∗ R ∗ S) :=
  Entails.antisymm (sep_assoc (PROP := sProp 𝕄)).1 (sep_assoc (PROP := sProp 𝕄)).2

theorem fam_zero : fam 0 Φ = iprop(emp) := by unfold fam; rw [Finset.univ_eq_empty]; exact bigSep_empty
/-- The first member and the others. -/
theorem fam_succ (n : ℕ) : fam (n + 1) Φ = iprop(Φ 0 ∗ fam n fun i => Φ (i + 1)) := by
  unfold fam
  rw [Fin.univ_succ, Finset.cons_eq_insert, bigSep_insert (by
    rw [Finset.mem_map]; rintro ⟨x, -, hx⟩; exact Fin.succ_ne_zero x hx), bigSep_map]
  rfl
theorem fam_one : fam 1 Φ = Φ 0 := by rw [fam_succ, fam_zero, sep_emp_eq]
/-- The first `n` members and the other `k`. -/
theorem fam_add (n k : ℕ) : fam (n + k) Φ = iprop(fam n Φ ∗ fam k fun i => Φ (n + i)) := by
  induction n generalizing Φ with
  | zero => rw [fam_zero, emp_sep_eq, Nat.zero_add]; congr 1; funext i; rw [Nat.zero_add]
  | succ n ih =>
    rw [show n + 1 + k = (n + k) + 1 by omega, fam_succ, fam_succ, ih, sep_assoc_eq]
    congr 3; funext i; congr 1; omega
/-- Two families are one of pairs. -/
theorem fam_sep (n : ℕ) : iprop(fam n Φ ∗ fam n Ψ) = fam n fun i => iprop(Φ i ∗ Ψ i) := by
  unfold fam; rw [bigSep_sep']
variable {Φ Ψ} in
theorem fam_congr {n : ℕ} (h : ∀ i, i < n → Φ i = Ψ i) : fam n Φ = fam n Ψ := by
  unfold fam; exact bigSep_congr fun i _ => h i.val i.isLt
variable {Φ Ψ} in
theorem fam_mono {n : ℕ} (h : ∀ i, i < n → Φ i ⊢ Ψ i) : fam n Φ ⊢ fam n Ψ := by
  unfold fam; exact bigSep_mono fun i _ => h i.val i.isLt

end Fam

/-- A step done `n` times. -/
theorem steps_run {c : Dev nD} {Q : PUnit.{1} → sProp (MT nD τ sig Unit (Elt F) ℕ UU ℕ)} {A : sProp (MT nD τ sig Unit (Elt F) ℕ UU ℕ)} [BI.Persistent A]
    (Pre Post S : ℕ → sProp (MT nD τ sig Unit (Elt F) ℕ UU ℕ)) {n : ℕ} {f : Fin n → P F → P F} {k : P F}
    (h : ∀ (i : ℕ) (hi : i < n) (k : P F), iprop(A ∗ Pre i ∗ S i) ⊢ iprop(((Post i ∗ S (i + 1)) -∗ run c k Q) -∗ run c (f ⟨i, hi⟩ k) Q)) :
    iprop(A ∗ fam n Pre ∗ S 0) ⊢ iprop(((fam n Post ∗ S n) -∗ run c k Q) -∗ run c (steps n f k) Q) := by
  induction n generalizing Pre Post S with
  | zero =>
    rw [fam_zero, fam_zero, emp_sep_eq]
    iintro ⟨-, HS⟩ Hk
    unfold steps
    iapply Hk
    iexact HS
  | succ n ih =>
    rw [fam_succ, fam_succ]
    iintro ⟨#HA, ⟨H0, Hr⟩, HS⟩ Hk
    unfold steps
    iapply (h 0 (Nat.succ_pos n) _) $$ [H0 HS]
    · isplitr; · iexact HA
      isplitl [H0]; · iexact H0
      iexact HS
    iintro ⟨HP, HS⟩
    iapply (ih (fun i => Pre (i + 1)) (fun i => Post (i + 1)) (fun i => S (i + 1)) (f := fun i => f i.succ)
      (fun i hi k => h (i + 1) (Nat.succ_lt_succ hi) k)) $$ [Hr HS]
    · isplitr; · iexact HA
      isplitl [Hr]; · iexact Hr
      iexact HS
    iintro ⟨HPr, HS⟩
    iapply Hk
    isplitl [HP HPr]
    · isplitl [HP]; · iexact HP
      iexact HPr
    · iexact HS

end Cert.AllSum

end
-- ==== Proof.Copies.lean ====
/-
# The copies of the result, and the waits for them

A summed chunk is copied to the own result and to two neighbours'; rows of the result are forwarded; each copy is
waited for. One statement per kind, for any chunk.
-/
module

public import proofs.«01_k».proof.Proof.Family

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 81 → ℕ) (c : Dev nD)
variable {Q : PUnit.{1} → sProp (MT nD τ sig Unit (Elt F) ℕ UU ℕ)}

/-- Rows of the result at any contents. -/
def oAny (c : Dev nD) (a n : ℕ) : sProp 𝕄 := iprop(∃ f, oPts c fullShare a n f)
/-- A cell not yet waited for, with the credit for the wait. -/
def due (c : Dev nD) (k : ℕ) : sProp 𝕄 := iprop(pos c k 0 ∗ cr c k 0)

/-- The local copy of a summed chunk starts. -/
theorem copyOut_run {i n : ℕ} (hi : i < 11) (hlen : n = chunkLen i) {b : Rows 10912 n} (hoff : b.off 0 = 1024 * i)
    {p : Rows 32768 n} (hp : p.off 0 = grow c (1024 * i)) {k : P F} :
    iprop(amb m K ∗ sPts c (shOut i) (1024 * i) n (suX m c) ∗ oAny c (grow c (1024 * i)) n ∗ tok c (1 + i) 0)
      ⊢ iprop((cr c (1 + i) 0 -∗ run c k Q) -∗ run c (copyOut (outS ⟨i, hi⟩) b p k) Q) := by
  have h1024 : n ≤ 1024 := by rw [hlen]; unfold chunkLen; split <;> omega
  unfold copyOut oAny
  iintro ⟨#Ha, Hs, ⟨%f, Ho⟩, Ht⟩ Hk
  ihave Hs := (Entails.of_eq (sPts_view c (shOut i) b hoff (suX m c))) $$ Hs
  ihave Ho := (Entails.of_eq (oPts_view c fullShare p hp f)) $$ Ho
  ihave #Hop := (amb_opened m K c (k := 1 + i) (by omega)) $$ Ha
  iapply (copy_local m K c (ks := outS ⟨i, hi⟩) (r := 0) (q := shOut i) (fs := suX m c) (fd := f) (hasRound_one (show 1 ≤ 1 + i by omega))
      ((oRows_credit p).trans (by rw [hlen]; exact (amt_out hi).symm))
      (by
        show _ ⊢ pay m c (1 + i) 0
        rw [pay_out m c hi, ← hlen, sPts_view c (shOut i) b hoff (suX m c)]
        unfold outF
        rw [oPts_land (F := F) c (outV m c) p hp f _ (fun x => by
          have hx : (x 0).val < n := (x 0).isLt
          unfold suX
          rw [sRows_read (F := F) (fun r => outV m c (grow c r)) b hoff x, grow_add c i (x 0).val n hi (by omega)])])) $$ [Hs Ho Ht]
  · isplitr; · iexact Ha
    isplitr; · iexact Hop
    isplitl [Hs]; · iexact Hs
    isplitl [Ho]; · iexact Ho
    iexact Ht
  iexact Hk

/-- The copy of a summed chunk of the own quarter to the result of a neighbour in the plane starts. -/
theorem sendSum_run {k₀ : ℕ} (hk : k₀ < 8) {e : Dev nD} {s r : Fin 80} {q : PosShare TreeShare} (hs1 : 1 ≤ s.val) (hr1 : 1 ≤ r.val)
    {j : ℕ} (hj : j < 37) (h3 : 3 ≤ j) (hd : dueK j = r.val) (he : via r.val c = e)
    (has : amt s.val 0 = credB 1024) (har : amt r.val 0 = credB 1024)
    (hps : pay m c s.val 0 = sPts c q (1024 * k₀) 1024 (suX m c)) (hpr : pay m e r.val 0 = oPts e fullShare (8192 * qr c + 1024 * k₀) 1024 (outF m e))
    (hpl : c.val / 4 = e.val / 4) (hne : qr c ≠ 3 - qr e)
    {b : Rows 10912 1024} (hoff : b.off 0 = 1024 * k₀) {p : Rows 32768 1024} (hp : p.off 0 = 8192 * qr c + 1024 * k₀) {k : P F} :
    iprop(amb m K ∗ owe c j ∗ sPts c q (1024 * k₀) 1024 (suX m c) ∗ oAny e (8192 * qr c + 1024 * k₀) 1024 ∗ tok c s.val 0 ∗ tok e r.val 0)
      ⊢ iprop(((owe c (j + 1) ∗ cr c s.val 0) -∗ run c k Q) -∗ run c (sendSum e s r b p k) Q) := by
  unfold sendSum oAny
  iintro ⟨#Ha, HO, Hs, ⟨%f, Ho⟩, Ht, Ht'⟩ Hk
  ihave Hs := (Entails.of_eq (sPts_view c q b hoff (suX m c))) $$ Hs
  ihave Ho := (Entails.of_eq (oPts_view e fullShare p hp f)) $$ Ho
  iapply (send_due m K c (e := e) (ks := s) (kr := r) (q := q) (fs := suX m c) (fd := f) hs1 hr1 hj h3 hd he
      ((oRows_credit p).trans har.symm) (has.trans har.symm)
      (by rw [hps, sPts_view c q b hoff (suX m c)])
      (by
        rw [hpr]
        unfold outF
        rw [oPts_land (F := F) e (outV m e) p hp f _ (fun x => by
          have hx : (x 0).val < 1024 := (x 0).isLt
          unfold suX
          rw [sRows_read (F := F) (fun r => outV m c (grow c r)) b hoff x, grow_add c k₀ (x 0).val 1024 (by omega) hx, grow_own c k₀ hk]
          refine outV_agree m hpl _ _ ?_ ?_
          · exact not_isSelf_quarter (qr c) (1024 * k₀ + (x 0).val) (by omega) (by omega) (.inl (by have := qr_lt c; omega))
          · exact not_isSelf_quarter (qr c) (1024 * k₀ + (x 0).val) (by omega) (by omega) (.inl hne))])) $$ [HO Hs Ho Ht Ht']
  · isplitr; · iexact Ha
    isplitl [Hs]; · iexact Hs
    isplitl [Ho]; · iexact Ho
    isplitl [HO]; · iexact HO
    isplitl [Ht]; · iexact Ht
    iexact Ht'
  iintro ⟨Hc, HO⟩
  iapply Hk
  isplitl [HO]; · iexact HO
  iexact Hc

/-- The copy of rows of the result to a neighbour's result starts. -/
theorem forward_run {a n : ℕ} {e : Dev nD} {s r : Fin 80} (hs1 : 1 ≤ s.val) (hr1 : 1 ≤ r.val)
    {j : ℕ} (hj : j < 37) (h3 : 3 ≤ j) (hd : dueK j = r.val) (he : via r.val c = e)
    (has : amt s.val 0 = credB n) (har : amt r.val 0 = credB n)
    (hps : pay m c s.val 0 = oPts c fullShare a n (outF m c)) (hpr : pay m e r.val 0 = oPts e fullShare a n (outF m e))
    (hag : ∀ x, x < n → ∀ l, outV m c (a + x) l = outV m e (a + x) l) {p : Rows 32768 n} (hp : p.off 0 = a) {k : P F} :
    iprop(amb m K ∗ owe c j ∗ oPts c fullShare a n (outF m c) ∗ oAny e a n ∗ tok c s.val 0 ∗ tok e r.val 0)
      ⊢ iprop(((owe c (j + 1) ∗ cr c s.val 0) -∗ run c k Q) -∗ run c (forward e s r p k) Q) := by
  unfold forward oAny
  iintro ⟨#Ha, HO, Hs, ⟨%f, Ho⟩, Ht, Ht'⟩ Hk
  ihave Hs := (Entails.of_eq (oPts_view c fullShare p hp (outF m c))) $$ Hs
  ihave Ho := (Entails.of_eq (oPts_view e fullShare p hp f)) $$ Ho
  iapply (send_due m K c (e := e) (ks := s) (kr := r) (q := fullShare) (fs := outF m c) (fd := f) hs1 hr1 hj h3 hd he
      ((oRows_credit p).trans har.symm) (has.trans har.symm)
      (by rw [hps, oPts_view c fullShare p hp (outF m c)])
      (by
        rw [hpr]
        unfold outF
        rw [oPts_land (F := F) e (outV m e) p hp f _ (fun x => by
          rw [oRows_read (F := F) (outV m c) p hp x]
          exact hag _ (x 0).isLt _)])) $$ [HO Hs Ho Ht Ht']
  · isplitr; · iexact Ha
    isplitl [Hs]; · iexact Hs
    isplitl [Ho]; · iexact Ho
    isplitl [HO]; · iexact HO
    isplitl [Ht]; · iexact Ht
    iexact Ht'
  iintro ⟨Hc, HO⟩
  iapply Hk
  isplitl [HO]; · iexact HO
  iexact Hc

section Waits
variable {s : Fin 80} (hs1 : 1 ≤ s.val) {j n : ℕ} (has : amt s.val 0 = credB n) (hlev : ∀ i, j ≤ i → i < 37 → levK s.val < levK (dueK i))
include hs1 has hlev

/-- The three forms of a wait for a copy. -/
theorem waitIn_run {b : Rows 10912 n} {p : Rows 32768 n} {k : P F} :
    iprop(amb m K ∗ owe c j ∗ due c s.val)
      ⊢ iprop(((owe c j ∗ pos c s.val 1 ∗ pay m c s.val 0) -∗ run c k Q) -∗ run c (waitIn s b p k) Q) := by
  unfold waitIn due
  iintro ⟨#Ha, HO, Hp, Hc⟩ Hk
  iapply (wait_copy m K c (ks := s) (r := 0) (j := j) (hasRound_one hs1) ((oRows_credit p).trans has.symm) hlev) $$ [Hc HO Hp]
  · isplitr; · iexact Ha
    isplitl [Hc]; · iexact Hc
    isplitl [HO]; · iexact HO
    iexact Hp
  iintro ⟨HO, Hp, -, H⟩
  iapply Hk
  isplitl [HO]; · iexact HO
  isplitl [Hp]; · iexact Hp
  iexact H
theorem waitSent_run {b : Rows 10912 n} {p : Rows 32768 n} {k : P F} :
    iprop(amb m K ∗ owe c j ∗ due c s.val)
      ⊢ iprop(((owe c j ∗ pos c s.val 1 ∗ pay m c s.val 0) -∗ run c k Q) -∗ run c (waitSent s b p k) Q) := by
  unfold waitSent due
  iintro ⟨#Ha, HO, Hp, Hc⟩ Hk
  iapply (wait_copy m K c (ks := s) (r := 0) (j := j) (hasRound_one hs1) ((sRows_credit b).trans has.symm) hlev) $$ [Hc HO Hp]
  · isplitr; · iexact Ha
    isplitl [Hc]; · iexact Hc
    isplitl [HO]; · iexact HO
    iexact Hp
  iintro ⟨HO, Hp, -, H⟩
  iapply Hk
  isplitl [HO]; · iexact HO
  isplitl [Hp]; · iexact Hp
  iexact H
theorem waitFwd_run {p : Rows 32768 n} {k : P F} :
    iprop(amb m K ∗ owe c j ∗ due c s.val)
      ⊢ iprop(((owe c j ∗ pos c s.val 1 ∗ pay m c s.val 0) -∗ run c k Q) -∗ run c (waitFwd s p k) Q) := by
  unfold waitFwd due
  iintro ⟨#Ha, HO, Hp, Hc⟩ Hk
  iapply (wait_copy m K c (ks := s) (r := 0) (j := j) (hasRound_one hs1) ((oRows_credit p).trans has.symm) hlev) $$ [Hc HO Hp]
  · isplitr; · iexact Ha
    isplitl [Hc]; · iexact Hc
    isplitl [HO]; · iexact HO
    iexact Hp
  iintro ⟨HO, Hp, -, H⟩
  iapply Hk
  isplitl [HO]; · iexact HO
  isplitl [Hp]; · iexact Hp
  iexact H

end Waits

end Cert.AllSum

end
-- ==== Proof.Phases.lean ====
/-
# The phases before the takes

The meeting at the barrier, the eleven chunks staged and sent, the eight chunks of the own quarter summed and sent on,
the three chunks of the diagonal quarter summed: each phase for all its chunks at once.
-/
module

public import proofs.«01_k».proof.Proof.Copies

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The three shares of a summed chunk are the chunk. -/
theorem sPts_shares (c : Dev nD) (a n : ℕ) (f : (Sn 10912).Idx → Elt F .bf16) :
    (sPts c fullShare a n f : sProp 𝕄) = iprop(sPts c sh1 a n f ∗ sPts c sh2 a n f ∗ sPts c sh3 a n f) := by
  unfold sPts
  have h1 := pointsTo_share (Ix := Unit) (Val := Elt F) (Name := ℕ) (U := UU) (Lvl := ℕ) (ℓ := (c : Thread nD τ).loc cc0_scratch0) (I := rowsIn 10912 a n) (f := f)
    (PosShare.mem_left_op_right fullShare)
  have h2 := pointsTo_share (Ix := Unit) (Val := Elt F) (Name := ℕ) (U := UU) (Lvl := ℕ) (ℓ := (c : Thread nD τ).loc cc0_scratch0) (I := rowsIn 10912 a n) (f := f)
    (PosShare.mem_left_op_right fullShare.right)
  rw [Entails.antisymm h1.1 h1.2, Entails.antisymm h2.1 h2.2]

variable (m : (ℓ : Loc nD τ sig) → Buf (Elt F) ℓ) (K : Dev nD × Fin 81 → ℕ) (c : Dev nD)
variable {Q : PUnit.{1} → sProp (MT nD τ sig Unit (Elt F) ℕ UU ℕ)}

theorem fam_three (Φ : ℕ → sProp (MT nD τ sig Unit (Elt F) ℕ UU ℕ)) : fam 3 Φ = iprop(fam 2 Φ ∗ Φ 2) :=
  (fam_add Φ 2 1).trans (by rw [fam_one])

/-! ## The barrier -/

/-- The three neighbours are told, with what each may write here, and all three are there. -/
theorem meet_run {k : P F} :
    iprop(amb m K ∗ owe c 0 ∗ (dutyTok ER (cell (mirror c) 80) 0 0 ∗ barPay m (mirror c) 0)
        ∗ (dutyTok ER (cell (znbr c) 80) 0 1 ∗ barPay m (znbr c) 1) ∗ (dutyTok ER (cell (ynbr c) 80) 0 2 ∗ barPay m (ynbr c) 2)
        ∗ cred (tallyAt (cell c 80) () 3) ∗ pos c 80 0)
      ⊢ iprop(((owe c 3 ∗ pos c 80 1 ∗ barPay m c 0 ∗ barPay m c 1 ∗ barPay m c 2) -∗ run c k Q) -∗ run c (meet c k) Q) := by
  unfold meet
  iintro ⟨#Ha, HO, ⟨Ht0, H0⟩, ⟨Ht1, H1⟩, ⟨Ht2, H2⟩, Hc, Hp⟩ Hk
  iapply (signal_due m K c (e := mirror c) (j := 0) rfl) $$ [HO Ht0 H0]
  · isplitr; · iexact Ha
    isplitl [HO]; · iexact HO
    isplitl [Ht0]; · iexact Ht0
    iexact H0
  iintro HO
  iapply (signal_due m K c (e := znbr c) (j := 1) rfl) $$ [HO Ht1 H1]
  · isplitr; · iexact Ha
    isplitl [HO]; · iexact HO
    isplitl [Ht1]; · iexact Ht1
    iexact H1
  iintro HO
  iapply (signal_due m K c (e := ynbr c) (j := 2) rfl) $$ [HO Ht2 H2]
  · isplitr; · iexact Ha
    isplitl [HO]; · iexact HO
    isplitl [Ht2]; · iexact Ht2
    iexact H2
  iintro HO
  iapply (wait_bar m K c) $$ [HO Hc Hp]
  · isplitr; · iexact Ha
    isplitl [Hc]; · iexact Hc
    isplitl [HO]; · iexact HO
    iexact Hp
  iexact Hk

/-! ## The chunks staged and sent -/

/-- What staging and sending chunk `i` uses. -/
def stagePre (i : ℕ) : sProp (MT nD τ sig Unit (Elt F) ℕ UU ℕ) :=
  iprop(tok c 0 i ∗ (∃ f, sPts c fullShare (1024 * i) (chunkLen i) f) ∗ tok c (12 + i) 0 ∗ tok (mirror c) (23 + i) 0
    ∗ ∃ f, rPts (mirror c) fullShare (1024 * i) (chunkLen i) f)

theorem stage_run {i n : ℕ} (hi : i < 11) (hlen : n = chunkLen i) (hn : 0 < n) (h1024 : n ≤ 1024)
    {v : Memref sig .tc .vmem (Sn n) .f32} (hv : v.view.WordExact) (hst : IsStage (F := F) v) (hvc : v.view.dmaCredit = credF n)
    {p : Rows 32768 n} (hp : p.off 0 = grow c (1024 * i)) {b : Rows 10912 n} (hb : b.rect.PackedRows (EltTy.packing .bf16))
    (hoff : b.off 0 = 1024 * i) {k : P F} :
    iprop(amb m K ∗ stagePre c i ∗ staging m c i (3 + i))
      ⊢ iprop(((cr c (12 + i) 0 ∗ staging m c (i + 1) (3 + (i + 1))) -∗ run c k Q)
          -∗ run c (load hn h1024 v hv p b hb (sendX c ⟨i, hi⟩ b k)) Q) := by
  unfold stagePre
  rw [← hlen]
  iintro ⟨#Ha, ⟨Htl, Hs, Ht, Ht', Hr⟩, HS⟩ Hk
  iapply (load_run m K c hi (show 3 ≤ 3 + i by omega) hlen hn h1024 hv hst hvc hp hb hoff) $$ [Htl Hs HS]
  · isplitr; · iexact Ha
    isplitl [HS]; · iexact HS
    isplitl [Htl]; · iexact Htl
    iexact Hs
  unfold staging
  iintro ⟨⟨HO, Hrest⟩, Hs⟩
  iapply (sendX_run m K c hi hlen hoff) $$ [HO Hs Ht Ht' Hr]
  · isplitr; · iexact Ha
    isplitl [HO]; · iexact HO
    isplitl [Hs]; · iexact Hs
    isplitl [Ht]; · iexact Ht
    isplitl [Ht']; · iexact Ht'
    iexact Hr
  iintro ⟨HO, Hc⟩
  iapply Hk
  isplitl [Hc]; · iexact Hc
  isplitl [HO]; · iexact HO
  iexact Hrest

theorem chunkLen_lt {i : ℕ} (h : i < 10) : chunkLen i = 1024 := if_pos h

/-- All eleven chunks. -/
theorem stages_run {k : P F} :
    iprop(amb m K ∗ fam 11 (stagePre c) ∗ staging m c 0 3)
      ⊢ iprop(((fam 11 (fun i => cr c (12 + i) 0) ∗ staging m c 11 14) -∗ run c k Q)
          -∗ run c (steps 8 (stage8 c) (steps 2 (stage2 c) (stageL c k))) Q) := by
  rw [show (11 : ℕ) = 8 + (2 + 1) from rfl, fam_add, fam_add, fam_one, fam_add, fam_add, fam_one]
  iintro ⟨#Ha, ⟨H8, H2, H1⟩, HS⟩ Hk
  iapply (steps_run (A := amb m K) (stagePre c) (fun i => cr c (12 + i) 0) (fun i => staging m c i (3 + i)) (fun i hi k => by
    unfold stage8
    exact stage_run m K c (show i < 11 by omega) (chunkLen_lt (by omega)).symm _ _ _ isStage_whole vM_credit
      ((ownRows_off c ⟨i, hi⟩).trans (grow_own c i hi).symm) _ rfl)) $$ [H8 HS]
  · isplitr; · iexact Ha
    isplitl [H8]; · iexact H8
    iexact HS
  iintro ⟨P8, HS⟩
  iapply (steps_run (A := amb m K) (fun i => stagePre c (8 + i)) (fun i => cr c (12 + (8 + i)) 0) (fun i => staging m c (8 + i) (3 + (8 + i))) (fun i hi k => by
    unfold stage2
    exact stage_run m K c (i := 8 + i) (by omega) (chunkLen_lt (by omega)).symm _ _ _ (isStage_rows 1024 _) (vRows_credit 1024 _)
      ((diagRows_off c ⟨i, by omega⟩).trans (by
        rw [grow_diag]
        rcases (show i = 0 ∨ i = 1 by omega) with rfl | rfl <;> simp only [diagAt] <;> rfl)) _ rfl)) $$ [H2 HS]
  · isplitr; · iexact Ha
    isplitl [H2]; · iexact H2
    iexact HS
  iintro ⟨P2, HS⟩
  unfold stageL
  iapply (stage_run m K c (i := 10) (by omega) rfl _ _ _ (isStage_rows 672 _) (vRows_credit 672 _)
      ((selfRows_off c).trans (by rw [show 1024 * 10 = 1024 * (8 + 2) from rfl, grow_diag])) _ rfl) $$ [H1 HS]
  · isplitr; · iexact Ha
    isplitl [H1]; · iexact H1
    iexact HS
  iintro ⟨P1, HS⟩
  iapply Hk
  isplitr [HS]
  · isplitl [P8]; · iexact P8
    isplitl [P2]; · iexact P2
    iexact P1
  · iexact HS

/-! ## The chunks summed -/

/-- What summing chunk `i` and copying it to the own result uses, and what it leaves. -/
def sumPre (i : ℕ) : sProp (MT nD τ sig Unit (Elt F) ℕ UU ℕ) :=
  iprop(due c (23 + i) ∗ due c (12 + i) ∗ tok c (1 + i) 0 ∗ oAny c (grow c (1024 * i)) (chunkLen i))
def sumPost (i : ℕ) : sProp (MT nD τ sig Unit (Elt F) ℕ UU ℕ) :=
  iprop(pos c (23 + i) 1 ∗ pos c (12 + i) 1 ∗ rPts c fullShare (1024 * i) (chunkLen i) (rcX m c) ∗ cr c (1 + i) 0)
/-- What sending summed chunk `k` to the two neighbours in the plane uses, and what it leaves. -/
def fanPre (k : ℕ) : sProp (MT nD τ sig Unit (Elt F) ℕ UU ℕ) :=
  iprop((tok c (34 + k) 0 ∗ tok (znbr c) (42 + k) 0 ∗ oAny (znbr c) (8192 * qr c + 1024 * k) 1024)
    ∗ (tok c (50 + k) 0 ∗ tok (ynbr c) (58 + k) 0 ∗ oAny (ynbr c) (8192 * qr c + 1024 * k) 1024))
def fanPost (k : ℕ) : sProp (MT nD τ sig Unit (Elt F) ℕ UU ℕ) := iprop(cr c (34 + k) 0 ∗ cr c (50 + k) 0)

/-- A chunk of the diagonal quarter, which only the own result gets. -/
theorem sumOnly_run {i n : ℕ} (hi : i < 11) (h8 : 8 ≤ i) (hlen : n = chunkLen i) (hn : 0 < n) {b : Rows 10912 n} (hb : b.rect.PackedRows (EltTy.packing .bf16))
    (hoff : b.off 0 = 1024 * i) {p : Rows 32768 n} (hp : p.off 0 = grow c (1024 * i)) {k : P F} :
    iprop(amb m K ∗ sumPre c i ∗ owe c 37)
      ⊢ iprop(((sumPost m c i ∗ owe c 37) -∗ run c k Q) -∗ run c (addX ⟨i, hi⟩ hn b hb (copyOut (outS ⟨i, hi⟩) b p k)) Q) := by
  unfold sumPre sumPost due
  rw [← hlen]
  iintro ⟨#Ha, ⟨Hr, Hs, Ht, Ho⟩, HO⟩ Hk
  iapply (addX_run m K c hi (show 14 ≤ 37 by omega) hlen hn hb hoff) $$ [Hr Hs HO]
  · isplitr; · iexact Ha
    isplitl [HO]; · iexact HO
    isplitl [Hr]; · iexact Hr
    iexact Hs
  iintro ⟨HO, Hpr, Hps, Hrc, Hsu⟩
  iapply (copyOut_run m K c hi hlen hoff hp) $$ [Hsu Ho Ht]
  · isplitr; · iexact Ha
    isplitl [Hsu]
    · unfold shOut; rw [if_neg (by omega)]; iexact Hsu
    isplitl [Ho]; · iexact Ho
    iexact Ht
  iintro Hc
  iapply Hk
  isplitr [HO]
  · isplitl [Hpr]; · iexact Hpr
    isplitl [Hps]; · iexact Hps
    isplitl [Hrc]; · iexact Hrc
    iexact Hc
  · iexact HO

/-- A chunk of the own quarter. -/
theorem sum8_run {i : ℕ} (hi : i < 8) {k : P F} :
    iprop(amb m K ∗ (sumPre c i ∗ fanPre c i) ∗ owe c (14 + 2 * i))
      ⊢ iprop((((sumPost m c i ∗ fanPost c i) ∗ owe c (14 + 2 * (i + 1))) -∗ run c k Q) -∗ run c (sum8 c ⟨i, hi⟩ k) Q) := by
  have hlen : 1024 = chunkLen i := (chunkLen_lt (by omega)).symm
  have hq := qr_lt c
  unfold sum8 sumPre sumPost due fanPre fanPost
  rw [← hlen]
  iintro ⟨#Ha, ⟨⟨Hr, Hs, Ht, Ho⟩, ⟨Htzs, Htzr, Hoz⟩, ⟨Htys, Htyr, Hoy⟩⟩, HO⟩ Hk
  iapply (addX_run m K c (show i < 11 by omega) (show 14 ≤ 14 + 2 * i by omega) hlen _ _ rfl) $$ [Hr Hs HO]
  · isplitr; · iexact Ha
    isplitl [HO]; · iexact HO
    isplitl [Hr]; · iexact Hr
    iexact Hs
  iintro ⟨HO, Hpr, Hps, Hrc, Hsu⟩
  ihave Hsu := (Entails.of_eq (sPts_shares c (1024 * i) 1024 (suX m c))) $$ Hsu
  icases Hsu with ⟨Hs1, Hs2, Hs3⟩
  iapply (copyOut_run m K c (show i < 11 by omega) hlen rfl ((ownRows_off c ⟨i, hi⟩).trans (grow_own c i hi).symm)) $$ [Hs3 Ho Ht]
  · isplitr; · iexact Ha
    isplitl [Hs3]
    · unfold shOut; rw [if_pos hi]; iexact Hs3
    isplitl [Ho]; · iexact Ho
    iexact Ht
  iintro Hc
  iapply (sendSum_run m K c hi (e := znbr c) (s := zsS ⟨i, hi⟩) (r := zrS ⟨i, hi⟩) (q := sh1) (show 1 ≤ 34 + i by omega) (show 1 ≤ 42 + i by omega)
      (j := 14 + 2 * i) (by omega) (by omega) (dueK_z hi) (via_z (k := 42 + i) (by omega) c) (amt_sum (k := 34 + i) (by omega) (by omega))
      (amt_sum (k := 42 + i) (by omega) (by omega)) (pay_zs m c hi) ((pay_zr m (znbr c) hi).trans (by rw [znbr_znbr])) (plane_znbr c).symm
      (by have := qr_znbr_ynbr c; have := qr_ne_ynbr c; omega) rfl (ownRows_off c ⟨i, hi⟩)) $$ [Hs1 HO Htzs Htzr Hoz]
  · isplitr; · iexact Ha
    isplitl [HO]; · iexact HO
    isplitl [Hs1]; · iexact Hs1
    isplitl [Hoz]; · iexact Hoz
    isplitl [Htzs]; · iexact Htzs
    iexact Htzr
  iintro ⟨HO, Hcz⟩
  iapply (sendSum_run m K c hi (e := ynbr c) (s := ysS ⟨i, hi⟩) (r := yrS ⟨i, hi⟩) (q := sh2) (show 1 ≤ 50 + i by omega) (show 1 ≤ 58 + i by omega)
      (j := 14 + 2 * i + 1) (by omega) (by omega) (by rw [show 14 + 2 * i + 1 = 15 + 2 * i by omega]; exact dueK_y hi) (via_y (k := 58 + i) (by omega) c)
      (amt_sum (k := 50 + i) (by omega) (by omega))
      (amt_sum (k := 58 + i) (by omega) (by omega)) (pay_ys m c hi) ((pay_yr m (ynbr c) hi).trans (by rw [ynbr_ynbr])) (plane_ynbr c).symm
      (by have := qr_znbr_ynbr c; have := qr_ne_znbr c; omega) rfl (ownRows_off c ⟨i, hi⟩)) $$ [Hs2 HO Htys Htyr Hoy]
  · isplitr; · iexact Ha
    isplitl [HO]; · iexact HO
    isplitl [Hs2]; · iexact Hs2
    isplitl [Hoy]; · iexact Hoy
    isplitl [Htys]; · iexact Htys
    iexact Htyr
  iintro ⟨HO, Hcy⟩
  iapply Hk
  isplitr [HO]
  · isplitr [Hcz Hcy]
    · isplitl [Hpr]; · iexact Hpr
      isplitl [Hps]; · iexact Hps
      isplitl [Hrc]; · iexact Hrc
      iexact Hc
    · isplitl [Hcz]; · iexact Hcz
      iexact Hcy
  · iexact HO

/-- The eight chunks of the own quarter. -/
theorem sums_run {k : P F} :
    iprop(amb m K ∗ fam 8 (fun i => iprop(sumPre c i ∗ fanPre c i)) ∗ owe c 14)
      ⊢ iprop(((fam 8 (fun i => iprop(sumPost m c i ∗ fanPost c i)) ∗ owe c 30) -∗ run c k Q) -∗ run c (steps 8 (sum8 c) k) Q) :=
  steps_run (A := amb m K) (fun i => iprop(sumPre c i ∗ fanPre c i)) (fun i => iprop(sumPost m c i ∗ fanPost c i)) (fun i => owe c (14 + 2 * i))
    (fun i hi k => sum8_run m K c hi)

/-- The three chunks of the diagonal quarter. -/
theorem sumsDiag_run {k : P F} :
    iprop(amb m K ∗ fam 3 (fun i => sumPre c (8 + i)) ∗ owe c 37)
      ⊢ iprop(((fam 3 (fun i => sumPost m c (8 + i)) ∗ owe c 37) -∗ run c k Q) -∗ run c (steps 2 (sum2 c) (sumL c k)) Q) := by
  rw [fam_three, fam_three]
  iintro ⟨#Ha, ⟨H2, H1⟩, HS⟩ Hk
  iapply (steps_run (A := amb m K) (fun i => sumPre c (8 + i)) (fun i => sumPost m c (8 + i)) (fun i => owe c 37) (fun i hi k => by
    unfold sum2
    exact sumOnly_run m K c (i := 8 + i) (by omega) (by omega) (chunkLen_lt (by omega)).symm _ _ rfl
      ((diagRows_off c ⟨i, by omega⟩).trans (by
        rw [grow_diag]
        rcases (show i = 0 ∨ i = 1 by omega) with rfl | rfl <;> simp only [diagAt] <;> rfl)))) $$ [H2 HS]
  · isplitr; · iexact Ha
    isplitl [H2]; · iexact H2
    iexact HS
  iintro ⟨P2, HS⟩
  unfold sumL
  iapply (sumOnly_run m K c (i := 10) (by omega) (by omega) rfl _ _ rfl
      ((selfRows_off c).trans (by rw [show 1024 * 10 = 1024 * (8 + 2) from rfl, grow_diag]))) $$ [H1 HS]
  · isplitr; · iexact Ha
    isplitl [H1]; · iexact H1
    iexact HS
  iintro ⟨P1, HS⟩
  iapply Hk
  isplitr [HS]
  · isplitl [P2]; · iexact P2
    iexact P1
  · iexact HS

end Cert.AllSum

end
-- ==== Proof.Takes.lean ====
/-
# The takes and the forwards

The neighbours' chunks are waited for in turn, and seven pieces of them are forwarded; then the forwarded pieces arrive,
and the own copies are waited for.
-/
module

public import proofs.«01_k».proof.Proof.Phases

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The forwarded pieces together -/

theorem fam_two (Φ : ℕ → sProp (MT nD τ sig Unit (Elt F) ℕ UU ℕ)) : fam 2 Φ = iprop(Φ 0 ∗ Φ 1) := by rw [fam_succ, fam_one]
theorem fam_three' (Φ : ℕ → sProp (MT nD τ sig Unit (Elt F) ℕ UU ℕ)) : fam 3 Φ = iprop(Φ 0 ∗ Φ 1 ∗ Φ 2) := by rw [fam_succ, fam_two]
theorem fam_four (Φ : ℕ → sProp (MT nD τ sig Unit (Elt F) ℕ UU ℕ)) : fam 4 Φ = iprop(Φ 0 ∗ Φ 1 ∗ Φ 2 ∗ Φ 3) := by rw [fam_succ, fam_three']
theorem fam_eight (Φ : ℕ → sProp (MT nD τ sig Unit (Elt F) ℕ UU ℕ)) :
    fam 8 Φ = iprop(Φ 0 ∗ Φ 1 ∗ Φ 2 ∗ Φ 3 ∗ Φ 4 ∗ Φ 5 ∗ Φ 6 ∗ Φ 7) := by rw [fam_succ, fam_succ, fam_succ, fam_succ, fam_four]

/-- The three pieces forwarded along the third axis are the first 2736 rows of their quarter. -/
theorem zPieces (c : Dev nD) (q : PosShare TreeShare) (A : ℕ) (f : (Sn 32768).Idx → Elt F .bf16) :
    fam 3 (fun j => oPts c q (A + zfo j) (zfl j) f) = oPts c q A 2736 f := by
  rw [fam_three', show (2736 : ℕ) = 1024 + (1024 + 688) from rfl, oPts_add c q A 1024 (1024 + 688) f, oPts_add c q (A + 1024) 1024 688 f]
  rfl
/-- The four pieces forwarded along the second axis are the next 2736. -/
theorem yPieces (c : Dev nD) (q : PosShare TreeShare) (A : ℕ) (f : (Sn 32768).Idx → Elt F .bf16) :
    fam 4 (fun j => oPts c q (A + yfo j) (yfl j) f) = oPts c q (A + 2736) 2736 f := by
  rw [fam_four, show oPts c q (A + 2736) 2736 f = oPts c q (A + 2736) (336 + (1024 + (1024 + 352))) f from rfl,
    oPts_add c q (A + 2736) 336 (1024 + (1024 + 352)) f, oPts_add c q (A + 2736 + 336) 1024 (1024 + 352) f,
    oPts_add c q (A + 2736 + 336 + 1024) 1024 352 f]
  rfl

variable (m : (ℓ : Loc nD τ sig) → Buf (Elt F) ℓ) (K : Dev nD × Fin 81 → ℕ) (c : Dev nD)
variable {Q : PUnit.{1} → sProp (MT nD τ sig Unit (Elt F) ℕ UU ℕ)}

/-! ## One take, one forward -/

/-- Chunk `k₀` of the third axis's neighbour is there. -/
theorem takeZ_run {k₀ j : ℕ} (hk : k₀ < 8) (hj : 30 ≤ j) {b : Rows 10912 1024} {p : Rows 32768 1024} {k : P F} :
    iprop(amb m K ∗ owe c j ∗ due c (42 + k₀))
      ⊢ iprop(((owe c j ∗ pos c (42 + k₀) 1 ∗ oPts c fullShare (8192 * qr (znbr c) + 1024 * k₀) 1024 (outF m c)) -∗ run c k Q)
          -∗ run c (waitIn (zrS ⟨k₀, hk⟩) b p k) Q) := by
  rw [← pay_zr m c hk]
  exact waitIn_run m K c (s := zrS ⟨k₀, hk⟩) (show 1 ≤ 42 + k₀ by omega) (amt_sum (k := 42 + k₀) (by omega) (by omega)) (clear_sum (k := 42 + k₀) (by omega) (by omega) hj)
/-- Chunk `k₀` of the second axis's neighbour is there. -/
theorem takeY_run {k₀ j : ℕ} (hk : k₀ < 8) (hj : 30 ≤ j) {b : Rows 10912 1024} {p : Rows 32768 1024} {k : P F} :
    iprop(amb m K ∗ owe c j ∗ due c (58 + k₀))
      ⊢ iprop(((owe c j ∗ pos c (58 + k₀) 1 ∗ oPts c fullShare (8192 * qr (ynbr c) + 1024 * k₀) 1024 (outF m c)) -∗ run c k Q)
          -∗ run c (waitIn (yrS ⟨k₀, hk⟩) b p k) Q) := by
  rw [← pay_yr m c hk]
  exact waitIn_run m K c (s := yrS ⟨k₀, hk⟩) (show 1 ≤ 58 + k₀ by omega) (amt_sum (k := 58 + k₀) (by omega) (by omega)) (clear_sum (k := 58 + k₀) (by omega) (by omega) hj)

/-- What forwarding a piece uses, beside the piece. -/
def zfPre (j : ℕ) : sProp (MT nD τ sig Unit (Elt F) ℕ UU ℕ) :=
  iprop(tok c (66 + j) 0 ∗ tok (znbr c) (69 + j) 0 ∗ oAny (znbr c) (8192 * qr (ynbr c) + zfo j) (zfl j))
def yfPre (j : ℕ) : sProp (MT nD τ sig Unit (Elt F) ℕ UU ℕ) :=
  iprop(tok c (72 + j) 0 ∗ tok (ynbr c) (76 + j) 0 ∗ oAny (ynbr c) (8192 * qr (znbr c) + yfo j) (yfl j))

theorem zf_end {j : ℕ} (h : j < 3) : zfo j + zfl j ≤ 2736 := by
  rcases (show j = 0 ∨ j = 1 ∨ j = 2 by omega) with rfl | rfl | rfl <;> decide
theorem yf_end {j : ℕ} (h : j < 4) : yfo j + yfl j ≤ 5472 := by
  rcases (show j = 0 ∨ j = 1 ∨ j = 2 ∨ j = 3 by omega) with rfl | rfl | rfl | rfl <;> decide

/-- Piece `j` starts along the third axis. -/
theorem fwdZ_run {j J n a : ℕ} (hj : j < 3) (hJ : J < 37) (h3 : 3 ≤ J) (hd : dueK J = 69 + j) (hn : n = zfl j) (ha : a = 8192 * qr (ynbr c) + zfo j)
    {p : Rows 32768 n} (hp : p.off 0 = a) {k : P F} :
    iprop(amb m K ∗ owe c J ∗ zfPre c j ∗ oPts c fullShare a n (outF m c))
      ⊢ iprop(((owe c (J + 1) ∗ cr c (66 + j) 0) -∗ run c k Q) -∗ run c (forward (znbr c) (zfsS ⟨j, hj⟩) (zfrS ⟨j, hj⟩) p k) Q) := by
  have hq : 3 - qr (znbr c) = qr (ynbr c) := by have := qr_znbr_ynbr c; omega
  have he := zf_end hj
  unfold zfPre
  rw [← hn, ← ha]
  iintro ⟨#Ha, HO, ⟨Ht, Ht', Ho⟩, Hs⟩ Hk
  iapply (forward_run m K c (e := znbr c) (s := zfsS ⟨j, hj⟩) (r := zfrS ⟨j, hj⟩) (a := a) (show 1 ≤ 66 + j by omega) (show 1 ≤ 69 + j by omega)
      hJ h3 hd (via_z (k := 69 + j) (by omega) c) ((amt_zfs hj).trans (by rw [hn])) ((amt_zfr hj).trans (by rw [hn]))
      ((pay_zfs m c hj).trans (by rw [hn, ha])) ((pay_zfr m (znbr c) hj).trans (by rw [hn, ha, hq]))
      (fun x hx l => by
        refine outV_agree m (plane_znbr c).symm _ _ ?_ ?_
        · exact not_isSelf_quarter (qr (ynbr c)) (zfo j + x) (by omega) (by omega) (.inr (by omega))
        · exact not_isSelf_quarter (qr (ynbr c)) (zfo j + x) (by omega) (by omega) (.inr (by omega))) hp) $$ [HO Ht Ht' Ho Hs]
  · isplitr; · iexact Ha
    isplitl [HO]; · iexact HO
    isplitl [Hs]; · iexact Hs
    isplitl [Ho]; · iexact Ho
    isplitl [Ht]; · iexact Ht
    iexact Ht'
  iexact Hk
/-- Piece `j` starts along the second axis. -/
theorem fwdY_run {j J n a : ℕ} (hj : j < 4) (hJ : J < 37) (h3 : 3 ≤ J) (hd : dueK J = 76 + j) (hn : n = yfl j) (ha : a = 8192 * qr (znbr c) + yfo j)
    {p : Rows 32768 n} (hp : p.off 0 = a) {k : P F} :
    iprop(amb m K ∗ owe c J ∗ yfPre c j ∗ oPts c fullShare a n (outF m c))
      ⊢ iprop(((owe c (J + 1) ∗ cr c (72 + j) 0) -∗ run c k Q) -∗ run c (forward (ynbr c) (yfsS ⟨j, hj⟩) (yfrS ⟨j, hj⟩) p k) Q) := by
  have hq : 3 - qr (ynbr c) = qr (znbr c) := by have := qr_znbr_ynbr c; omega
  have he := yf_end hj
  unfold yfPre
  rw [← hn, ← ha]
  iintro ⟨#Ha, HO, ⟨Ht, Ht', Ho⟩, Hs⟩ Hk
  iapply (forward_run m K c (e := ynbr c) (s := yfsS ⟨j, hj⟩) (r := yfrS ⟨j, hj⟩) (a := a) (show 1 ≤ 72 + j by omega) (show 1 ≤ 76 + j by omega)
      hJ h3 hd (via_y (k := 76 + j) (by omega) c) ((amt_yfs hj).trans (by rw [hn])) ((amt_yfr hj).trans (by rw [hn]))
      ((pay_yfs m c hj).trans (by rw [hn, ha])) ((pay_yfr m (ynbr c) hj).trans (by rw [hn, ha, hq]))
      (fun x hx l => by
        refine outV_agree m (plane_ynbr c).symm _ _ ?_ ?_
        · exact not_isSelf_quarter (qr (znbr c)) (yfo j + x) (by omega) (by omega) (.inr (by omega))
        · exact not_isSelf_quarter (qr (znbr c)) (yfo j + x) (by omega) (by omega) (.inr (by omega))) hp) $$ [HO Ht Ht' Ho Hs]
  · isplitr; · iexact Ha
    isplitl [HO]; · iexact HO
    isplitl [Hs]; · iexact Hs
    isplitl [Ho]; · iexact Ho
    isplitl [Ht]; · iexact Ht
    iexact Ht'
  iexact Hk

/-! ## One pair of takes -/

/-- A pair of takes with what is done between: `fz` and `fy` each use the chunk just taken and leave something of it. -/
theorem take_run {k₀ j j' j'' : ℕ} (hk : k₀ < 8) (hj : 30 ≤ j) (hj' : 30 ≤ j') {fz fy : P F → P F}
    {Rz Ry Pz Py : sProp (MT nD τ sig Unit (Elt F) ℕ UU ℕ)}
    (hz : ∀ k, iprop(amb m K ∗ owe c j ∗ Rz ∗ oPts c fullShare (8192 * qr (znbr c) + 1024 * k₀) 1024 (outF m c))
      ⊢ iprop(((owe c j' ∗ Pz) -∗ run c k Q) -∗ run c (fz k) Q))
    (hy : ∀ k, iprop(amb m K ∗ owe c j' ∗ Ry ∗ oPts c fullShare (8192 * qr (ynbr c) + 1024 * k₀) 1024 (outF m c))
      ⊢ iprop(((owe c j'' ∗ Py) -∗ run c k Q) -∗ run c (fy k) Q)) {k : P F} :
    iprop(amb m K ∗ owe c j ∗ due c (42 + k₀) ∗ due c (58 + k₀) ∗ Rz ∗ Ry)
      ⊢ iprop(((owe c j'' ∗ pos c (42 + k₀) 1 ∗ pos c (58 + k₀) 1 ∗ Pz ∗ Py) -∗ run c k Q) -∗ run c (take c ⟨k₀, hk⟩ fz fy k) Q) := by
  unfold take
  iintro ⟨#Ha, HO, Hdz, Hdy, Hz, Hy⟩ Hk
  iapply (takeZ_run m K c hk hj) $$ [HO Hdz]
  · isplitr; · iexact Ha
    isplitl [HO]; · iexact HO
    iexact Hdz
  iintro ⟨HO, Hpz, Ho⟩
  iapply (hz _) $$ [HO Hz Ho]
  · isplitr; · iexact Ha
    isplitl [HO]; · iexact HO
    isplitl [Hz]; · iexact Hz
    iexact Ho
  iintro ⟨HO, HPz⟩
  iapply (takeY_run m K c hk hj') $$ [HO Hdy]
  · isplitr; · iexact Ha
    isplitl [HO]; · iexact HO
    iexact Hdy
  iintro ⟨HO, Hpy, Ho⟩
  iapply (hy _) $$ [HO Hy Ho]
  · isplitr; · iexact Ha
    isplitl [HO]; · iexact HO
    isplitl [Hy]; · iexact Hy
    iexact Ho
  iintro ⟨HO, HPy⟩
  iapply Hk
  isplitl [HO]; · iexact HO
  isplitl [Hpz]; · iexact Hpz
  isplitl [Hpy]; · iexact Hpy
  isplitl [HPz]; · iexact HPz
  iexact HPy

/-- Nothing is done with the chunk. -/
theorem keep_run {j : ℕ} {O : sProp (MT nD τ sig Unit (Elt F) ℕ UU ℕ)} (k : P F) :
    iprop(amb m K ∗ owe c j ∗ emp ∗ O) ⊢ iprop(((owe c j ∗ O) -∗ run c k Q) -∗ run c (id k) Q) := by
  rw [emp_sep_eq]
  iintro ⟨-, H⟩ Hk
  iapply Hk
  iexact H
/-- A part of the chunk is forwarded, `L` is left of it. -/
theorem part_run {j j' : ℕ} {R O O₁ L C : sProp (MT nD τ sig Unit (Elt F) ℕ UU ℕ)} {f : P F → P F} (hO : O ⊢ iprop(O₁ ∗ L))
    (hf : ∀ k, iprop(amb m K ∗ owe c j ∗ R ∗ O₁) ⊢ iprop(((owe c j' ∗ C) -∗ run c k Q) -∗ run c (f k) Q)) (k : P F) :
    iprop(amb m K ∗ owe c j ∗ R ∗ O) ⊢ iprop(((owe c j' ∗ C ∗ L) -∗ run c k Q) -∗ run c (f k) Q) := by
  iintro ⟨#Ha, HO, HR, H⟩ Hk
  ihave H := hO $$ H
  icases H with ⟨H, HL⟩
  iapply (hf k) $$ [HO HR H]
  · isplitr; · iexact Ha
    isplitl [HO]; · iexact HO
    isplitl [HR]; · iexact HR
    iexact H
  iintro ⟨HO, HC⟩
  iapply Hk
  isplitl [HO]; · iexact HO
  isplitl [HC]; · iexact HC
  iexact HL

/-! ## All the takes -/

/-- What is left of the third axis's neighbour's quarter once its pieces are forwarded, and of the second's. -/
def zLeft : sProp (MT nD τ sig Unit (Elt F) ℕ UU ℕ) :=
  iprop(oPts c fullShare (8192 * qr (znbr c)) 2736 (outF m c) ∗ oPts c fullShare (8192 * qr (znbr c) + 5472) 2720 (outF m c))
def yLeft : sProp (MT nD τ sig Unit (Elt F) ℕ UU ℕ) := oPts c fullShare (8192 * qr (ynbr c) + 2736) 5456 (outF m c)

theorem zLeft_eq : zLeft m c = iprop((oPts c fullShare (8192 * qr (znbr c) + 1024 * 0) 1024 (outF m c) ∗ oPts c fullShare (8192 * qr (znbr c) + 1024 * 1) 1024 (outF m c)
      ∗ oPts c fullShare (8192 * qr (znbr c) + 2048) 688 (outF m c))
    ∗ (oPts c fullShare (8192 * qr (znbr c) + 5472) 672 (outF m c) ∗ oPts c fullShare (8192 * qr (znbr c) + 1024 * 6) 1024 (outF m c)
      ∗ oPts c fullShare (8192 * qr (znbr c) + 1024 * 7) 1024 (outF m c))) := by
  unfold zLeft
  generalize 8192 * qr (znbr c) = A
  rw [show oPts c fullShare A 2736 (outF m c) = oPts c fullShare A (1024 + (1024 + 688)) (outF m c) from rfl,
    show oPts c fullShare (A + 5472) 2720 (outF m c) = oPts c fullShare (A + 5472) (672 + (1024 + 1024)) (outF m c) from rfl,
    oPts_add c fullShare A 1024 (1024 + 688), oPts_add c fullShare (A + 1024) 1024 688, oPts_add c fullShare (A + 5472) 672 (1024 + 1024),
    oPts_add c fullShare (A + 5472 + 672) 1024 1024]
  rfl
theorem yLeft_eq : yLeft m c = iprop(oPts c fullShare (8192 * qr (ynbr c) + 2736) 336 (outF m c) ∗ oPts c fullShare (8192 * qr (ynbr c) + 1024 * 3) 1024 (outF m c)
    ∗ oPts c fullShare (8192 * qr (ynbr c) + 1024 * 4) 1024 (outF m c) ∗ oPts c fullShare (8192 * qr (ynbr c) + 1024 * 5) 1024 (outF m c)
    ∗ oPts c fullShare (8192 * qr (ynbr c) + 1024 * 6) 1024 (outF m c) ∗ oPts c fullShare (8192 * qr (ynbr c) + 1024 * 7) 1024 (outF m c)) := by
  unfold yLeft
  generalize 8192 * qr (ynbr c) = A
  rw [show oPts c fullShare (A + 2736) 5456 (outF m c) = oPts c fullShare (A + 2736) (336 + (1024 + (1024 + (1024 + (1024 + 1024))))) (outF m c) from rfl,
    oPts_add c fullShare (A + 2736) 336 _, oPts_add c fullShare (A + 2736 + 336) 1024 _, oPts_add c fullShare (A + 2736 + 336 + 1024) 1024 _,
    oPts_add c fullShare (A + 2736 + 336 + 1024 + 1024) 1024 _, oPts_add c fullShare (A + 2736 + 336 + 1024 + 1024 + 1024) 1024 _]

theorem split_two (A : ℕ) (f : (Sn 32768).Idx → Elt F .bf16) :
    (oPts c fullShare (A + 1024 * 2) 1024 f : sProp 𝕄) = iprop(oPts c fullShare (A + 2048) 688 f ∗ oPts c fullShare (A + 2736) 336 f) :=
  oPts_add c fullShare (A + 2048) 688 336 f
theorem split_five (A : ℕ) (f : (Sn 32768).Idx → Elt F .bf16) :
    (oPts c fullShare (A + 1024 * 5) 1024 f : sProp 𝕄) = iprop(oPts c fullShare (A + 5120) 352 f ∗ oPts c fullShare (A + 5472) 672 f) :=
  oPts_add c fullShare (A + 5120) 352 672 f

theorem takes_run {k : P F} :
    iprop(amb m K ∗ owe c 30 ∗ fam 8 (fun k => due c (42 + k)) ∗ fam 8 (fun k => due c (58 + k)) ∗ fam 3 (zfPre c) ∗ fam 4 (yfPre c))
      ⊢ iprop(((owe c 37 ∗ fam 8 (fun k => pos c (42 + k) 1) ∗ fam 8 (fun k => pos c (58 + k) 1) ∗ fam 3 (fun j => cr c (66 + j) 0)
          ∗ fam 4 (fun j => cr c (72 + j) 0) ∗ zLeft m c ∗ yLeft m c) -∗ run c k Q) -∗ run c (takes c k) Q) := by
  rw [fam_eight, fam_eight, fam_eight, fam_eight, fam_three', fam_three', fam_four, fam_four, zLeft_eq, yLeft_eq]
  unfold takes
  iintro ⟨#Ha, HO, ⟨Z0, Z1, Z2, Z3, Z4, Z5, Z6, Z7⟩, ⟨Y0, Y1, Y2, Y3, Y4, Y5, Y6, Y7⟩, ⟨U0, U1, U2⟩, ⟨V0, V1, V2, V3⟩⟩ Hk
  iapply (take_run m K c (k₀ := 0) (j := 30) (by omega) (by omega) (by omega) (keep_run m K c)
    (fun k => fwdZ_run m K c (j := 0) (J := 30) (n := 1024) (by omega) (by omega) (by omega) rfl rfl rfl (yRows_off c 0))) $$ [HO Z0 Y0 U0]
  · isplitr; · iexact Ha
    isplitl [HO]; · iexact HO
    isplitl [Z0]; · iexact Z0
    isplitl [Y0]; · iexact Y0
    rw [emp_sep_eq]; iexact U0
  iintro ⟨HO, Z0, Y0, Oz0, C0⟩
  iapply (take_run m K c (k₀ := 1) (j := 31) (by omega) (by omega) (by omega) (keep_run m K c)
    (fun k => fwdZ_run m K c (j := 1) (J := 31) (n := 1024) (by omega) (by omega) (by omega) rfl rfl rfl (yRows_off c 1))) $$ [HO Z1 Y1 U1]
  · isplitr; · iexact Ha
    isplitl [HO]; · iexact HO
    isplitl [Z1]; · iexact Z1
    isplitl [Y1]; · iexact Y1
    rw [emp_sep_eq]; iexact U1
  iintro ⟨HO, Z1, Y1, Oz1, C1⟩
  iapply (take_run m K c (k₀ := 2) (j := 32) (by omega) (by omega) (by omega)
    (part_run m K c ((Entails.of_eq (split_two c _ _)).trans (sep_comm (PROP := sProp 𝕄)).1)
      (fun k => fwdY_run m K c (j := 0) (J := 32) (n := 336) (by omega) (by omega) (by omega) rfl rfl rfl (fwdY0_off c)))
    (part_run m K c (Entails.of_eq (split_two c _ _))
      (fun k => fwdZ_run m K c (j := 2) (J := 33) (n := 688) (by omega) (by omega) (by omega) rfl rfl rfl (fwdZ2_off c)))) $$ [HO Z2 Y2 V0 U2]
  · isplitr; · iexact Ha
    isplitl [HO]; · iexact HO
    isplitl [Z2]; · iexact Z2
    isplitl [Y2]; · iexact Y2
    isplitl [V0]; · iexact V0
    iexact U2
  iintro ⟨HO, Z2, Y2, ⟨D0, Oz2⟩, ⟨C2, Oy2⟩⟩
  iapply (take_run m K c (k₀ := 3) (j := 34) (by omega) (by omega) (by omega)
    (fun k => fwdY_run m K c (j := 1) (J := 34) (n := 1024) (by omega) (by omega) (by omega) rfl rfl rfl (zRows_off c 3)) (keep_run m K c)) $$ [HO Z3 Y3 V1]
  · isplitr; · iexact Ha
    isplitl [HO]; · iexact HO
    isplitl [Z3]; · iexact Z3
    isplitl [Y3]; · iexact Y3
    rw [sep_emp_eq]; iexact V1
  iintro ⟨HO, Z3, Y3, D1, Oy3⟩
  iapply (take_run m K c (k₀ := 4) (j := 35) (by omega) (by omega) (by omega)
    (fun k => fwdY_run m K c (j := 2) (J := 35) (n := 1024) (by omega) (by omega) (by omega) rfl rfl rfl (zRows_off c 4)) (keep_run m K c)) $$ [HO Z4 Y4 V2]
  · isplitr; · iexact Ha
    isplitl [HO]; · iexact HO
    isplitl [Z4]; · iexact Z4
    isplitl [Y4]; · iexact Y4
    rw [sep_emp_eq]; iexact V2
  iintro ⟨HO, Z4, Y4, D2, Oy4⟩
  iapply (take_run m K c (k₀ := 5) (j := 36) (by omega) (by omega) (by omega)
    (part_run m K c (Entails.of_eq (split_five c _ _))
      (fun k => fwdY_run m K c (j := 3) (J := 36) (n := 352) (by omega) (by omega) (by omega) rfl rfl rfl (fwdY3_off c))) (keep_run m K c)) $$ [HO Z5 Y5 V3]
  · isplitr; · iexact Ha
    isplitl [HO]; · iexact HO
    isplitl [Z5]; · iexact Z5
    isplitl [Y5]; · iexact Y5
    rw [sep_emp_eq]; iexact V3
  iintro ⟨HO, Z5, Y5, ⟨D3, Oz5⟩, Oy5⟩
  iapply (take_run m K c (k₀ := 6) (j := 37) (by omega) (by omega) (by omega) (keep_run m K c) (keep_run m K c)) $$ [HO Z6 Y6]
  · isplitr; · iexact Ha
    isplitl [HO]; · iexact HO
    isplitl [Z6]; · iexact Z6
    rw [emp_sep_eq, sep_emp_eq]; iexact Y6
  iintro ⟨HO, Z6, Y6, Oz6, Oy6⟩
  iapply (take_run m K c (k₀ := 7) (j := 37) (by omega) (by omega) (by omega) (keep_run m K c) (keep_run m K c)) $$ [HO Z7 Y7]
  · isplitr; · iexact Ha
    isplitl [HO]; · iexact HO
    isplitl [Z7]; · iexact Z7
    rw [emp_sep_eq, sep_emp_eq]; iexact Y7
  iintro ⟨HO, Z7, Y7, Oz7, Oy7⟩
  iapply Hk
  isplitl [HO]; · iexact HO
  isplitl [Z0 Z1 Z2 Z3 Z4 Z5 Z6 Z7]
  · iframe
  isplitl [Y0 Y1 Y2 Y3 Y4 Y5 Y6 Y7]
  · iframe
  iframe

end Cert.AllSum

end
-- ==== Proof.Ends.lean ====
/-
# The last waits

The forwarded pieces arrive, and every copy the device started is waited for.
-/
module

public import proofs.«01_k».proof.Proof.Takes

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 81 → ℕ) (c : Dev nD)
variable {Q : PUnit.{1} → sProp (MT nD τ sig Unit (Elt F) ℕ UU ℕ)}

/-! ## Seven forwarded pieces waited for -/

/-- The waits for seven pieces, on three cells from `a` on and four from `b` on. -/
theorem seven_run {a b : ℕ} (ha : 1 ≤ a) (ha' : a + 3 ≤ 80) (hb : 1 ≤ b) (hb' : b + 4 ≤ 80)
    (hz : ∀ j, j < 3 → amt (a + j) 0 = credB (zfl j)) (hy : ∀ j, j < 4 → amt (b + j) 0 = credB (yfl j))
    {p0 : Rows 32768 1024} {p1 : Rows 32768 1024} {p2 : Rows 32768 688} {p3 : Rows 32768 336} {p4 : Rows 32768 1024} {p5 : Rows 32768 1024}
    {p6 : Rows 32768 352} {k : P F} :
    iprop(amb m K ∗ owe c 37 ∗ fam 3 (fun j => due c (a + j)) ∗ fam 4 (fun j => due c (b + j)))
      ⊢ iprop(((owe c 37 ∗ fam 3 (fun j => iprop(pos c (a + j) 1 ∗ pay m c (a + j) 0)) ∗ fam 4 (fun j => iprop(pos c (b + j) 1 ∗ pay m c (b + j) 0)))
          -∗ run c k Q)
        -∗ run c (waitFwd (⟨a + 0, by omega⟩ : Fin 80) p0 <| waitFwd (⟨a + 1, by omega⟩ : Fin 80) p1 <| waitFwd (⟨a + 2, by omega⟩ : Fin 80) p2 <|
          waitFwd (⟨b + 0, by omega⟩ : Fin 80) p3 <| waitFwd (⟨b + 1, by omega⟩ : Fin 80) p4 <| waitFwd (⟨b + 2, by omega⟩ : Fin 80) p5 <|
          waitFwd (⟨b + 3, by omega⟩ : Fin 80) p6 k) Q) := by
  rw [fam_three', fam_three', fam_four, fam_four]
  iintro ⟨#Ha, HO, ⟨Z0, Z1, Z2⟩, ⟨Y0, Y1, Y2, Y3⟩⟩ Hk
  iapply (waitFwd_run m K c (s := (⟨a + 0, by omega⟩ : Fin 80)) (j := 37) (show 1 ≤ a + 0 by omega) (hz 0 (by omega)) (clear_all (le_refl _))) $$ [HO Z0]
  · iframe; iexact Ha
  iintro ⟨HO, Z0⟩
  iapply (waitFwd_run m K c (s := (⟨a + 1, by omega⟩ : Fin 80)) (j := 37) (show 1 ≤ a + 1 by omega) (hz 1 (by omega)) (clear_all (le_refl _))) $$ [HO Z1]
  · iframe; iexact Ha
  iintro ⟨HO, Z1⟩
  iapply (waitFwd_run m K c (s := (⟨a + 2, by omega⟩ : Fin 80)) (j := 37) (show 1 ≤ a + 2 by omega) (hz 2 (by omega)) (clear_all (le_refl _))) $$ [HO Z2]
  · iframe; iexact Ha
  iintro ⟨HO, Z2⟩
  iapply (waitFwd_run m K c (s := (⟨b + 0, by omega⟩ : Fin 80)) (j := 37) (show 1 ≤ b + 0 by omega) (hy 0 (by omega)) (clear_all (le_refl _))) $$ [HO Y0]
  · iframe; iexact Ha
  iintro ⟨HO, Y0⟩
  iapply (waitFwd_run m K c (s := (⟨b + 1, by omega⟩ : Fin 80)) (j := 37) (show 1 ≤ b + 1 by omega) (hy 1 (by omega)) (clear_all (le_refl _))) $$ [HO Y1]
  · iframe; iexact Ha
  iintro ⟨HO, Y1⟩
  iapply (waitFwd_run m K c (s := (⟨b + 2, by omega⟩ : Fin 80)) (j := 37) (show 1 ≤ b + 2 by omega) (hy 2 (by omega)) (clear_all (le_refl _))) $$ [HO Y2]
  · iframe; iexact Ha
  iintro ⟨HO, Y2⟩
  iapply (waitFwd_run m K c (s := (⟨b + 3, by omega⟩ : Fin 80)) (j := 37) (show 1 ≤ b + 3 by omega) (hy 3 (by omega)) (clear_all (le_refl _))) $$ [HO Y3]
  · iframe; iexact Ha
  iintro ⟨HO, Y3⟩
  iapply Hk
  isplitl [HO]; · iexact HO
  isplitl [Z0 Z1 Z2]
  · isplitl [Z0]; · iexact Z0
    isplitl [Z1]; · iexact Z1
    iexact Z2
  · isplitl [Y0]; · iexact Y0
    isplitl [Y1]; · iexact Y1
    isplitl [Y2]; · iexact Y2
    iexact Y3

/-- The pieces that arrive are the first 5472 rows of the diagonal quarter. -/
theorem arrivals_run {k : P F} :
    iprop(amb m K ∗ owe c 37 ∗ fam 3 (fun j => due c (69 + j)) ∗ fam 4 (fun j => due c (76 + j)))
      ⊢ iprop(((owe c 37 ∗ (fam 3 (fun j => pos c (69 + j) 1) ∗ oPts c fullShare (8192 * (3 - qr c)) 2736 (outF m c))
          ∗ fam 4 (fun j => pos c (76 + j) 1) ∗ oPts c fullShare (8192 * (3 - qr c) + 2736) 2736 (outF m c)) -∗ run c k Q)
        -∗ run c (arrivals c k) Q) := by
  have hz := fam_congr (n := 3) (fun j hj => congrArg (fun p => iprop(pos c (69 + j) 1 ∗ p)) (pay_zfr m c hj))
  have hy := fam_congr (n := 4) (fun j hj => congrArg (fun p => iprop(pos c (76 + j) 1 ∗ p)) (pay_yfr m c hj))
  rw [← zPieces, ← yPieces, fam_sep, fam_sep, ← hz, ← hy]
  unfold arrivals
  exact seven_run m K c (by omega) (by omega) (by omega) (by omega) (fun j hj => amt_zfr hj) (fun j hj => amt_yfr hj)

/-- The pieces sent on are the first 2736 rows of one neighbour's quarter and the next 2736 of the other's. -/
theorem departures_run {k : P F} :
    iprop(amb m K ∗ owe c 37 ∗ fam 3 (fun j => due c (66 + j)) ∗ fam 4 (fun j => due c (72 + j)))
      ⊢ iprop(((owe c 37 ∗ (fam 3 (fun j => pos c (66 + j) 1) ∗ oPts c fullShare (8192 * qr (ynbr c)) 2736 (outF m c))
          ∗ fam 4 (fun j => pos c (72 + j) 1) ∗ oPts c fullShare (8192 * qr (znbr c) + 2736) 2736 (outF m c)) -∗ run c k Q)
        -∗ run c (departures c k) Q) := by
  have hz := fam_congr (n := 3) (fun j hj => congrArg (fun p => iprop(pos c (66 + j) 1 ∗ p)) (pay_zfs m c hj))
  have hy := fam_congr (n := 4) (fun j hj => congrArg (fun p => iprop(pos c (72 + j) 1 ∗ p)) (pay_yfs m c hj))
  rw [← zPieces, ← yPieces, fam_sep, fam_sep, ← hz, ← hy]
  unfold departures
  exact seven_run m K c (by omega) (by omega) (by omega) (by omega) (fun j hj => amt_zfs hj) (fun j hj => amt_yfs hj)

/-! ## The copies of the summed chunks waited for -/

/-- What is there once the copies of chunk `i` are done. -/
def donePost (i : ℕ) : sProp (MT nD τ sig Unit (Elt F) ℕ UU ℕ) :=
  iprop(pos c (1 + i) 1 ∗ oPts c fullShare (grow c (1024 * i)) (chunkLen i) (outF m c) ∗ sPts c fullShare (1024 * i) (chunkLen i) (suX m c))

/-- A chunk of the diagonal quarter. -/
theorem doneOnly_run {i n : ℕ} (hi : i < 11) (h8 : 8 ≤ i) (hlen : n = chunkLen i) {b : Rows 10912 n} {p : Rows 32768 n} {k : P F} :
    iprop(amb m K ∗ due c (1 + i) ∗ owe c 37) ⊢ iprop(((donePost m c i ∗ owe c 37) -∗ run c k Q) -∗ run c (waitIn (outS ⟨i, hi⟩) b p k) Q) := by
  unfold donePost
  iintro ⟨#Ha, Hd, HO⟩ Hk
  iapply (waitIn_run m K c (s := outS ⟨i, hi⟩) (j := 37) (show 1 ≤ 1 + i by omega) ((amt_out hi).trans (by rw [hlen])) (clear_all (le_refl _))) $$ [HO Hd]
  · iframe; iexact Ha
  iintro ⟨HO, Hp, H⟩
  ihave H := (Entails.of_eq (pay_out m c hi)) $$ H
  icases H with ⟨Ho, Hs⟩
  iapply Hk
  isplitr [HO]
  · isplitl [Hp]; · iexact Hp
    isplitl [Ho]; · iexact Ho
    unfold shOut; rw [if_neg (show ¬ i < 8 by omega)]; iexact Hs
  · iexact HO

/-- A chunk of the own quarter, which has three copies. -/
theorem done8_run {i : ℕ} (hi : i < 8) {k : P F} :
    iprop(amb m K ∗ (due c (34 + i) ∗ due c (50 + i) ∗ due c (1 + i)) ∗ owe c 37)
      ⊢ iprop((((pos c (34 + i) 1 ∗ pos c (50 + i) 1 ∗ donePost m c i) ∗ owe c 37) -∗ run c k Q) -∗ run c (done8 c ⟨i, hi⟩ k) Q) := by
  have hlen : chunkLen i = 1024 := chunkLen_lt (by omega)
  have hi' : i < 11 := by omega
  unfold done8 donePost
  rw [hlen]
  iintro ⟨#Ha, ⟨Hdz, Hdy, Hd⟩, HO⟩ Hk
  iapply (waitSent_run m K c (s := zsS ⟨i, hi⟩) (j := 37) (show 1 ≤ 34 + i by omega) (amt_sum (k := 34 + i) (show 34 ≤ 34 + i by omega) (show 34 + i < 66 by omega)) (clear_all (le_refl _))) $$ [HO Hdz]
  · iframe; iexact Ha
  iintro ⟨HO, Hpz, H1⟩
  ihave H1 := (Entails.of_eq (pay_zs m c hi)) $$ H1
  iapply (waitSent_run m K c (s := ysS ⟨i, hi⟩) (j := 37) (show 1 ≤ 50 + i by omega) (amt_sum (k := 50 + i) (show 34 ≤ 50 + i by omega) (show 50 + i < 66 by omega)) (clear_all (le_refl _))) $$ [HO Hdy]
  · iframe; iexact Ha
  iintro ⟨HO, Hpy, H2⟩
  ihave H2 := (Entails.of_eq (pay_ys m c hi)) $$ H2
  iapply (waitIn_run m K c (s := outS ⟨i, hi'⟩) (j := 37) (show 1 ≤ 1 + i by omega) ((amt_out hi').trans (by rw [hlen])) (clear_all (le_refl _))) $$ [HO Hd]
  · iframe; iexact Ha
  iintro ⟨HO, Hp, H⟩
  ihave H := (Entails.of_eq (pay_out m c hi')) $$ H
  unfold shOut
  rw [if_pos hi, hlen]
  icases H with ⟨Ho, H3⟩
  iapply Hk
  isplitr [HO]
  · isplitl [Hpz]; · iexact Hpz
    isplitl [Hpy]; · iexact Hpy
    isplitl [Hp]; · iexact Hp
    isplitl [Ho]; · iexact Ho
    iapply (Entails.of_eq (sPts_shares c (1024 * i) 1024 (suX m c)).symm)
    isplitl [H1]; · iexact H1
    isplitl [H2]; · iexact H2
    iexact H3
  · iexact HO

/-- All the summed chunks. -/
theorem dones_run {k : P F} :
    iprop(amb m K ∗ (fam 8 (fun i => iprop(due c (34 + i) ∗ due c (50 + i) ∗ due c (1 + i))) ∗ fam 3 (fun i => due c (1 + (8 + i)))) ∗ owe c 37)
      ⊢ iprop((((fam 8 (fun i => iprop(pos c (34 + i) 1 ∗ pos c (50 + i) 1 ∗ donePost m c i)) ∗ fam 3 (fun i => donePost m c (8 + i))) ∗ owe c 37) -∗ run c k Q)
        -∗ run c (steps 8 (done8 c) <| steps 2 (done2 c) <| waitIn (outS 10) chunkL (selfRows c) k) Q) := by
  rw [fam_three (fun i => due c (1 + (8 + i))), fam_three]
  iintro ⟨#Ha, ⟨H8, H2, H1⟩, HS⟩ Hk
  iapply (steps_run (A := amb m K) (fun i => iprop(due c (34 + i) ∗ due c (50 + i) ∗ due c (1 + i)))
      (fun i => iprop(pos c (34 + i) 1 ∗ pos c (50 + i) 1 ∗ donePost m c i)) (fun i => owe c 37) (fun i hi k => done8_run m K c hi)) $$ [H8 HS]
  · iframe; iexact Ha
  iintro ⟨P8, HS⟩
  iapply (steps_run (A := amb m K) (fun i => due c (1 + (8 + i))) (fun i => donePost m c (8 + i)) (fun i => owe c 37) (fun i hi k => by
    unfold done2
    exact doneOnly_run m K c (i := 8 + i) (by omega) (by omega) (chunkLen_lt (by omega)).symm)) $$ [H2 HS]
  · iframe; iexact Ha
  iintro ⟨P2, HS⟩
  iapply (doneOnly_run m K c (i := 10) (by omega) (by omega) rfl) $$ [H1 HS]
  · isplitr; · iexact Ha
    isplitl [H1]; · iexact H1
    iexact HS
  iintro ⟨P1, HS⟩
  iapply Hk
  isplitr [HS]
  · isplitl [P8]; · iexact P8
    isplitl [P2]; · iexact P2
    iexact P1
  · iexact HS

end Cert.AllSum

end
-- ==== Proof.Pieces.lean ====
/-
# A device's holdings, piece by piece

The cells in the order of their numbers, and the buffers cut into the runs of rows that the phases use.
-/
module

public import proofs.«01_k».proof.Proof.Ends

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Families
variable (Φ Ψ : ℕ → sProp (MT nD τ sig Unit (Elt F) ℕ UU ℕ))

/-- The members from `a` on are those below `b` and those from `b` on. -/
theorem fam_part (a n k b N : ℕ) (hb : a + n = b) (hN : n + k = N) :
    fam N (fun i => Φ (a + i)) = iprop(fam n (fun i => Φ (a + i)) ∗ fam k (fun i => Φ (b + i))) := by
  subst hb; subst hN
  rw [fam_add]
  congr 2; funext i; rw [Nat.add_assoc]

/-- The cells from 1 to 79, kind by kind. -/
theorem fam_cells : fam 79 (fun i => Φ (1 + i))
    = iprop(fam 11 (fun i => Φ (1 + i)) ∗ fam 11 (fun i => Φ (12 + i)) ∗ fam 11 (fun i => Φ (23 + i)) ∗ fam 8 (fun i => Φ (34 + i))
      ∗ fam 8 (fun i => Φ (42 + i)) ∗ fam 8 (fun i => Φ (50 + i)) ∗ fam 8 (fun i => Φ (58 + i)) ∗ fam 3 (fun i => Φ (66 + i))
      ∗ fam 3 (fun i => Φ (69 + i)) ∗ fam 4 (fun i => Φ (72 + i)) ∗ fam 4 (fun i => Φ (76 + i))) := by
  rw [fam_part Φ 1 11 68 12 79 rfl rfl, fam_part Φ 12 11 57 23 68 rfl rfl, fam_part Φ 23 11 46 34 57 rfl rfl, fam_part Φ 34 8 38 42 46 rfl rfl,
    fam_part Φ 42 8 30 50 38 rfl rfl, fam_part Φ 50 8 22 58 30 rfl rfl, fam_part Φ 58 8 14 66 22 rfl rfl, fam_part Φ 66 3 11 69 14 rfl rfl,
    fam_part Φ 69 3 8 72 11 rfl rfl, fam_part Φ 72 4 4 76 8 rfl rfl]

/-- All the cells: the staging cell, the others, the barrier's. -/
theorem fam_all : fam 81 Φ = iprop(Φ 0 ∗ fam 79 (fun i => Φ (1 + i)) ∗ Φ 80) := by
  have h := fam_add (fun i => Φ (i + 1)) 79 1
  rw [fam_one] at h
  rw [fam_succ, show fam 80 (fun i => Φ (i + 1)) = iprop(fam 79 (fun i => Φ (i + 1)) ∗ Φ 80) from h]
  congr 3; funext i; rw [Nat.add_comm]

/-- A family of steps, each with what is always there. -/
theorem fam_fupd {A : sProp (MT nD τ sig Unit (Elt F) ℕ UU ℕ)} [BI.Persistent A] {n : ℕ}
    (h : ∀ i, i < n → iprop(A ∗ Φ i) ⊢ |={Set.univ}=> Ψ i) : iprop(A ∗ fam n Φ) ⊢ |={Set.univ}=> fam n Ψ := by
  induction n generalizing Φ Ψ with
  | zero =>
    rw [fam_zero, fam_zero]
    iintro ⟨-, H⟩; imodintro; iexact H
  | succ n ih =>
    rw [fam_succ, fam_succ]
    iintro ⟨#HA, H0, Hr⟩
    imod (h 0 (Nat.succ_pos n)) $$ [H0] with G0
    · isplitr; · iexact HA
      iexact H0
    imod (ih (fun i => Φ (i + 1)) (fun i => Ψ (i + 1)) (fun i hi => h (i + 1) (Nat.succ_lt_succ hi))) $$ [Hr] with Gr
    · isplitr; · iexact HA
      iexact Hr
    imodintro
    isplitl [G0]; · iexact G0
    iexact Gr

end Families

section Memory
variable (c : Dev nD) (q : PosShare TreeShare)

/-- The send buffer is its eleven chunks. -/
theorem sChunks (f : (Sn 10912).Idx → Elt F .bf16) :
    sPts c q 0 10912 f = fam 11 (fun i => sPts c q (1024 * i) (chunkLen i) f) := by
  have h : sPts c q 0 (1024 * 10) f = fam 10 (fun i => sPts c q (1024 * i) (chunkLen i) f) := by
    rw [sPts_mul]; unfold fam
    exact bigSep_congr fun i _ => by
      show _ = sPts c q (1024 * i.val) (chunkLen i.val) f
      rw [chunkLen_lt i.isLt, Nat.zero_add]
  have h' := fam_add (fun i => sPts c q (1024 * i) (chunkLen i) f) 10 1
  rw [fam_one, ← h] at h'
  exact (sPts_add c q 0 (1024 * 10) 672 f).trans h'.symm
/-- So is the receive buffer. -/
theorem rChunks (f : (Sn 10912).Idx → Elt F .bf16) :
    rPts c q 0 10912 f = fam 11 (fun i => rPts c q (1024 * i) (chunkLen i) f) := by
  have h : rPts c q 0 (1024 * 10) f = fam 10 (fun i => rPts c q (1024 * i) (chunkLen i) f) := by
    rw [rPts_mul]; unfold fam
    exact bigSep_congr fun i _ => by
      show _ = rPts c q (1024 * i.val) (chunkLen i.val) f
      rw [chunkLen_lt i.isLt, Nat.zero_add]
  have h' := fam_add (fun i => rPts c q (1024 * i) (chunkLen i) f) 10 1
  rw [fam_one, ← h] at h'
  exact (rPts_add c q 0 (1024 * 10) 672 f).trans h'.symm
/-- A quarter of the result is its eight chunks. -/
theorem oChunks (A : ℕ) (f : (Sn 32768).Idx → Elt F .bf16) :
    oPts c q A 8192 f = fam 8 (fun i => oPts c q (A + 1024 * i) 1024 f) := oPts_mul c q A 1024 8 f

/-- The rows that the device sums: its own quarter and the end of the diagonal one. -/
theorem ownChunks (f : (Sn 32768).Idx → Elt F .bf16) :
    fam 11 (fun i => oPts c q (grow c (1024 * i)) (chunkLen i) f)
      = iprop(oPts c q (8192 * qr c) 8192 f ∗ oPts c q (8192 * (3 - qr c) + 5472) 2720 f) := by
  have h := fam_add (fun i => oPts c q (grow c (1024 * i)) (chunkLen i) f) 8 3
  rw [show (8 + 3 : ℕ) = 11 from rfl] at h
  rw [h]
  refine congrArg₂ (fun a b => iprop(a ∗ b)) ?_ ?_
  · rw [oChunks]
    exact fam_congr fun i hi => by rw [grow_own c i hi, chunkLen_lt (by omega)]
  · rw [fam_three', show oPts c q (8192 * (3 - qr c) + 5472) 2720 f = oPts c q (8192 * (3 - qr c) + 5472) (1024 + (1024 + 672)) f from rfl,
      oPts_add c q (8192 * (3 - qr c) + 5472) 1024 (1024 + 672) f, oPts_add c q (8192 * (3 - qr c) + 5472 + 1024) 1024 672 f,
      grow_diag, grow_diag, grow_diag]
    rfl

/-- The result's buffer, from the device's point of view: the rows it sums, its two neighbours' quarters, the two
    pieces of the diagonal quarter that the neighbours forward. -/
theorem oWhole (f : (Sn 32768).Idx → Elt F .bf16) :
    oPts c q 0 32768 f = iprop((oPts c q (8192 * qr c) 8192 f ∗ oPts c q (8192 * (3 - qr c) + 5472) 2720 f)
      ∗ oPts c q (8192 * qr (znbr c)) 8192 f ∗ oPts c q (8192 * qr (ynbr c)) 8192 f
      ∗ oPts c q (8192 * (3 - qr c)) 2736 f ∗ oPts c q (8192 * (3 - qr c) + 2736) 2736 f) := by
  have h : oPts c q 0 32768 f = iprop(oPts c q (8192 * qr c) 8192 f ∗ oPts c q (8192 * qr (znbr c)) 8192 f
      ∗ oPts c q (8192 * qr (ynbr c)) 8192 f ∗ oPts c q (8192 * (3 - qr c)) 8192 f) := by
    refine (oPts_mul c q 0 8192 4 f).trans ?_
    rw [bigSep_univ_eq_bigSepL (quarters c) (quarters_mem c).symm (quarters_nodup c)]
    unfold quarters
    simp only [Nat.zero_add]
    rfl
  rw [h, show oPts c q (8192 * (3 - qr c)) 8192 f = oPts c q (8192 * (3 - qr c)) (2736 + (2736 + 2720)) f from rfl,
    oPts_add c q (8192 * (3 - qr c)) 2736 (2736 + 2720) f, oPts_add c q (8192 * (3 - qr c) + 2736) 2736 2720 f]
  apply Entails.antisymm
  · show (_ : sProp 𝕄) ⊢ _
    iintro ⟨H1, H2, H3, H4, H5, H6⟩
    isplitl [H1 H6]
    · isplitl [H1]; · iexact H1
      iexact H6
    isplitl [H2]; · iexact H2
    isplitl [H3]; · iexact H3
    isplitl [H4]; · iexact H4
    iexact H5
  · show (_ : sProp 𝕄) ⊢ _
    iintro ⟨⟨H1, H6⟩, H2, H3, H4, H5⟩
    isplitl [H1]; · iexact H1
    isplitl [H2]; · iexact H2
    isplitl [H3]; · iexact H3
    isplitl [H4]; · iexact H4
    isplitl [H5]; · iexact H5
    iexact H6

end Memory

end Cert.AllSum

end
-- ==== Proof.Hold.lean ====
/-
# What a device holds

What a device starts from, how it is shared out to the phases and the neighbours, and what is put together at the end.
-/
module

public import proofs.«01_k».proof.Proof.Pieces

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 81 → ℕ) (c : Dev nD)
variable {Q : PUnit.{1} → sProp (MT nD τ sig Unit (Elt F) ℕ UU ℕ)}

/-! ## The start and the end -/

/-- The rights to credit that the device uses: a unit at each neighbour's barrier, its own staging cell's rounds, and
    every other cell at the device at the cell's other end. -/
def payToks : sProp (MT nD τ sig Unit (Elt F) ℕ UU ℕ) :=
  iprop((dutyTok ER (cell (mirror c) 80) 0 0 ∗ dutyTok ER (cell (znbr c) 80) 0 1 ∗ dutyTok ER (cell (ynbr c) 80) 0 2)
    ∗ fam 11 (fun i => tok c 0 i) ∗ fam 79 (fun i => tok (via (1 + i) c) (1 + i) 0))

/-- What the neighbours owe the device. -/
def credits : sProp (MT nD τ sig Unit (Elt F) ℕ UU ℕ) :=
  iprop(cred (tallyAt (cell c 80) () 3) ∗ fam 11 (fun i => cr c (23 + i) 0) ∗ fam 8 (fun i => cr c (42 + i) 0) ∗ fam 8 (fun i => cr c (58 + i) 0)
    ∗ fam 3 (fun i => cr c (69 + i) 0) ∗ fam 4 (fun i => cr c (76 + i) 0))

/-- The device's memory: its block of the argument, the result's buffer, three scratch buffers of any contents. -/
def memory (o : (Sn 32768).Idx → Elt F .bf16) : sProp (MT nD τ sig Unit (Elt F) ℕ UU ℕ) :=
  iprop(xPts c fullShare 0 32768 (xAll m c) ∗ oPts c fullShare 0 32768 o
    ∗ (∃ f, sPts c fullShare 0 10912 f) ∗ (∃ f, rPts c fullShare 0 10912 f) ∗ ∃ f, vPts c fullShare 0 1024 f)

/-! ## The families that the phases take -/

theorem due_fam (n a : ℕ) : fam n (fun i => due c (a + i)) = iprop(fam n (fun i => pos c (a + i) 0) ∗ fam n (fun i => cr (F := F) c (a + i) 0)) := by
  rw [fam_sep]; rfl

/-- The tokens kind by kind, at the devices they are for. -/
theorem toks_split : fam 79 (fun i => tok (F := F) (via (1 + i) c) (1 + i) 0)
    = iprop(fam 11 (fun i => tok c (1 + i) 0) ∗ fam 11 (fun i => tok c (12 + i) 0) ∗ fam 11 (fun i => tok (mirror c) (23 + i) 0)
      ∗ fam 8 (fun i => tok c (34 + i) 0) ∗ fam 8 (fun i => tok (znbr c) (42 + i) 0) ∗ fam 8 (fun i => tok c (50 + i) 0)
      ∗ fam 8 (fun i => tok (ynbr c) (58 + i) 0) ∗ fam 3 (fun i => tok c (66 + i) 0) ∗ fam 3 (fun i => tok (znbr c) (69 + i) 0)
      ∗ fam 4 (fun i => tok c (72 + i) 0) ∗ fam 4 (fun i => tok (ynbr c) (76 + i) 0)) := by
  have at' : ∀ (n a : ℕ) (e : Dev nD), (∀ i, i < n → via (a + i) c = e) →
      fam n (fun i => tok (F := F) (via (a + i) c) (a + i) 0) = fam n (fun i => tok e (a + i) 0) :=
    fun n a e h => fam_congr fun i hi => by rw [h i hi]
  rw [fam_cells (fun k => tok (F := F) (via k c) k 0),
    at' 11 1 c fun i hi => via_id (by omega) (by omega) (by omega) c, at' 11 12 c fun i hi => via_id (by omega) (by omega) (by omega) c,
    at' 11 23 (mirror c) fun i hi => via_x (by omega) (by omega) c, at' 8 34 c fun i hi => via_id (by omega) (by omega) (by omega) c,
    at' 8 42 (znbr c) fun i hi => via_z (by omega) c, at' 8 50 c fun i hi => via_id (by omega) (by omega) (by omega) c,
    at' 8 58 (ynbr c) fun i hi => via_y (by omega) c, at' 3 66 c fun i hi => via_id (by omega) (by omega) (by omega) c,
    at' 3 69 (znbr c) fun i hi => via_z (by omega) c, at' 4 72 c fun i hi => via_id (by omega) (by omega) (by omega) c,
    at' 4 76 (ynbr c) fun i hi => via_y (by omega) c]

theorem sAnyChunks : iprop(∃ f, sPts c fullShare 0 10912 f) ⊢ fam 11 (fun i => iprop(∃ f, sPts (F := F) c fullShare (1024 * i) (chunkLen i) f)) := by
  iintro ⟨%f, H⟩
  ihave H := (Entails.of_eq (sChunks c fullShare f)) $$ H
  iapply (fam_mono (Φ := fun i => sPts c fullShare (1024 * i) (chunkLen i) f) fun i _ => by iintro H; iexists f; iexact H)
  iexact H
theorem rAnyChunks : iprop(∃ f, rPts c fullShare 0 10912 f) ⊢ fam 11 (fun i => iprop(∃ f, rPts (F := F) c fullShare (1024 * i) (chunkLen i) f)) := by
  iintro ⟨%f, H⟩
  ihave H := (Entails.of_eq (rChunks c fullShare f)) $$ H
  iapply (fam_mono (Φ := fun i => rPts c fullShare (1024 * i) (chunkLen i) f) fun i _ => by iintro H; iexists f; iexact H)
  iexact H
/-- Pieces of known contents are pieces of any. -/
theorem oAnyFam (n : ℕ) (a l : ℕ → ℕ) (f : (Sn 32768).Idx → Elt F .bf16) :
    fam n (fun i => oPts c fullShare (a i) (l i) f) ⊢ fam n (fun i => oAny c (a i) (l i)) :=
  fam_mono fun i _ => by unfold oAny; iintro H; iexists f; iexact H

theorem stagePre_fam : iprop(fam 11 (fun i => tok c 0 i) ∗ (∃ f, sPts c fullShare 0 10912 f) ∗ fam 11 (fun i => tok c (12 + i) 0)
      ∗ fam 11 (fun i => tok (mirror c) (23 + i) 0) ∗ ∃ f, rPts (mirror c) fullShare 0 10912 f) ⊢ fam 11 (stagePre (F := F) c) := by
  rw [show fam 11 (fun i => stagePre (F := F) c i) = iprop(fam 11 (fun i => tok c 0 i) ∗ fam 11 (fun i => iprop(∃ f, sPts c fullShare (1024 * i) (chunkLen i) f))
    ∗ fam 11 (fun i => tok c (12 + i) 0) ∗ fam 11 (fun i => tok (mirror c) (23 + i) 0)
    ∗ fam 11 (fun i => iprop(∃ f, rPts (mirror c) fullShare (1024 * i) (chunkLen i) f))) by simp only [fam_sep]; rfl]
  iintro ⟨H1, H2, H3, H4, H5⟩
  ihave H2 := (sAnyChunks c) $$ H2
  ihave H5 := (rAnyChunks (mirror c)) $$ H5
  isplitl [H1]; · iexact H1
  isplitl [H2]; · iexact H2
  isplitl [H3]; · iexact H3
  isplitl [H4]; · iexact H4
  iexact H5

theorem sumPre_fam (f : (Sn 32768).Idx → Elt F .bf16) : iprop(fam 11 (fun i => due c (23 + i)) ∗ fam 11 (fun i => due c (12 + i)) ∗ fam 11 (fun i => tok c (1 + i) 0)
      ∗ (oPts c fullShare (8192 * qr c) 8192 f ∗ oPts c fullShare (8192 * (3 - qr c) + 5472) 2720 f)) ⊢ iprop(fam 8 (sumPre c) ∗ fam 3 (fun i => sumPre c (8 + i))) := by
  have h := fam_add (sumPre (F := F) c) 8 3
  rw [← h, ← ownChunks, show fam (8 + 3) (sumPre (F := F) c) = iprop(fam 11 (fun i => due c (23 + i)) ∗ fam 11 (fun i => due c (12 + i)) ∗ fam 11 (fun i => tok c (1 + i) 0)
    ∗ fam 11 (fun i => oAny c (grow c (1024 * i)) (chunkLen i))) by simp only [fam_sep]; rfl]
  iintro ⟨H1, H2, H3, H4⟩
  ihave H4 := (oAnyFam c 11 (fun i => grow c (1024 * i)) chunkLen f) $$ H4
  isplitl [H1]; · iexact H1
  isplitl [H2]; · iexact H2
  isplitl [H3]; · iexact H3
  iexact H4

theorem fanPre_fam (f g : (Sn 32768).Idx → Elt F .bf16) : iprop((fam 8 (fun i => tok c (34 + i) 0) ∗ fam 8 (fun i => tok (znbr c) (42 + i) 0)
        ∗ oPts (znbr c) fullShare (8192 * qr c) 8192 f)
      ∗ (fam 8 (fun i => tok c (50 + i) 0) ∗ fam 8 (fun i => tok (ynbr c) (58 + i) 0) ∗ oPts (ynbr c) fullShare (8192 * qr c) 8192 g))
      ⊢ fam 8 (fanPre c) := by
  rw [oChunks, oChunks, show fam 8 (fanPre (F := F) c) = iprop((fam 8 (fun i => tok c (34 + i) 0) ∗ fam 8 (fun i => tok (znbr c) (42 + i) 0)
        ∗ fam 8 (fun i => oAny (znbr c) (8192 * qr c + 1024 * i) 1024))
      ∗ (fam 8 (fun i => tok c (50 + i) 0) ∗ fam 8 (fun i => tok (ynbr c) (58 + i) 0) ∗ fam 8 (fun i => oAny (ynbr c) (8192 * qr c + 1024 * i) 1024)))
      by simp only [fam_sep]; rfl]
  iintro ⟨⟨H1, H2, H3⟩, ⟨H4, H5, H6⟩⟩
  ihave H3 := (oAnyFam (znbr c) 8 (fun i => 8192 * qr c + 1024 * i) (fun _ => 1024) f) $$ H3
  ihave H6 := (oAnyFam (ynbr c) 8 (fun i => 8192 * qr c + 1024 * i) (fun _ => 1024) g) $$ H6
  isplitl [H1 H2 H3]
  · isplitl [H1]; · iexact H1
    isplitl [H2]; · iexact H2
    iexact H3
  · isplitl [H4]; · iexact H4
    isplitl [H5]; · iexact H5
    iexact H6

theorem zfPre_fam (f : (Sn 32768).Idx → Elt F .bf16) : iprop(fam 3 (fun i => tok c (66 + i) 0) ∗ fam 3 (fun i => tok (znbr c) (69 + i) 0)
      ∗ oPts (znbr c) fullShare (8192 * qr (ynbr c)) 2736 f) ⊢ fam 3 (zfPre c) := by
  rw [← zPieces, show fam 3 (zfPre (F := F) c) = iprop(fam 3 (fun i => tok c (66 + i) 0) ∗ fam 3 (fun i => tok (znbr c) (69 + i) 0)
      ∗ fam 3 (fun i => oAny (znbr c) (8192 * qr (ynbr c) + zfo i) (zfl i))) by simp only [fam_sep]; rfl]
  iintro ⟨H1, H2, H3⟩
  ihave H3 := (oAnyFam (znbr c) 3 (fun i => 8192 * qr (ynbr c) + zfo i) zfl f) $$ H3
  isplitl [H1]; · iexact H1
  isplitl [H2]; · iexact H2
  iexact H3
theorem yfPre_fam (f : (Sn 32768).Idx → Elt F .bf16) : iprop(fam 4 (fun i => tok c (72 + i) 0) ∗ fam 4 (fun i => tok (ynbr c) (76 + i) 0)
      ∗ oPts (ynbr c) fullShare (8192 * qr (znbr c) + 2736) 2736 f) ⊢ fam 4 (yfPre c) := by
  rw [← yPieces, show fam 4 (yfPre (F := F) c) = iprop(fam 4 (fun i => tok c (72 + i) 0) ∗ fam 4 (fun i => tok (ynbr c) (76 + i) 0)
      ∗ fam 4 (fun i => oAny (ynbr c) (8192 * qr (znbr c) + yfo i) (yfl i))) by simp only [fam_sep]; rfl]
  iintro ⟨H1, H2, H3⟩
  ihave H3 := (oAnyFam (ynbr c) 4 (fun i => 8192 * qr (znbr c) + yfo i) yfl f) $$ H3
  isplitl [H1]; · iexact H1
  isplitl [H2]; · iexact H2
  iexact H3

/-! ## What the device gives its neighbours, and what it has back at the end -/

/-- The result's buffer at launch: the rows the device sums, and what its two neighbours in the plane are given of it. -/
theorem give : oPts c fullShare 0 32768 (oAll m c)
    ⊢ iprop((oPts c fullShare (8192 * qr c) 8192 (oAll m c) ∗ oPts c fullShare (8192 * (3 - qr c) + 5472) 2720 (oAll m c))
      ∗ barPay m (znbr c) 1 ∗ barPay m (ynbr c) 2) := by
  rw [show barPay m (znbr c) 1 = iprop(oPts (znbr (znbr c)) fullShare (8192 * qr (znbr c)) 8192 (oAll m (znbr (znbr c)))
        ∗ oPts (znbr (znbr c)) fullShare (8192 * qr (ynbr (znbr c))) 2736 (oAll m (znbr (znbr c)))) from rfl,
    show barPay m (ynbr c) 2 = iprop(oPts (ynbr (ynbr c)) fullShare (8192 * qr (ynbr c)) 8192 (oAll m (ynbr (ynbr c)))
        ∗ oPts (ynbr (ynbr c)) fullShare (8192 * qr (znbr (ynbr c)) + 2736) 2736 (oAll m (ynbr (ynbr c)))) from rfl,
    znbr_znbr, ynbr_ynbr, qr_ynbr_znbr, qr_znbr_of_ynbr, oWhole]
  iintro ⟨H1, H2, H3, H4, H5⟩
  isplitl [H1]; · iexact H1
  isplitl [H2 H4]
  · isplitl [H2]; · iexact H2
    iexact H4
  · isplitl [H3]; · iexact H3
    iexact H5

theorem give_recv : iprop(∃ f, rPts c fullShare 0 10912 f) ⊢ barPay m (mirror c) 0 := by
  rw [show barPay m (mirror c) 0 = iprop(∃ f, rPts (mirror (mirror c)) fullShare 0 10912 f) from rfl, mirror_mirror]

/-- The result's buffer at the end. -/
theorem whole : iprop((oPts c fullShare (8192 * qr c) 8192 (outF m c) ∗ oPts c fullShare (8192 * (3 - qr c) + 5472) 2720 (outF m c))
      ∗ zLeft m c ∗ yLeft m c
      ∗ (oPts c fullShare (8192 * (3 - qr c)) 2736 (outF m c) ∗ oPts c fullShare (8192 * (3 - qr c) + 2736) 2736 (outF m c))
      ∗ oPts c fullShare (8192 * qr (ynbr c)) 2736 (outF m c) ∗ oPts c fullShare (8192 * qr (znbr c) + 2736) 2736 (outF m c))
    ⊢ oPts c fullShare 0 32768 (outF m c) := by
  have hz : oPts c fullShare (8192 * qr (znbr c)) 8192 (outF m c) = iprop(oPts c fullShare (8192 * qr (znbr c)) 2736 (outF m c)
      ∗ oPts c fullShare (8192 * qr (znbr c) + 2736) 2736 (outF m c) ∗ oPts c fullShare (8192 * qr (znbr c) + 5472) 2720 (outF m c)) := by
    rw [show oPts c fullShare (8192 * qr (znbr c)) 8192 (outF m c) = oPts c fullShare (8192 * qr (znbr c)) (2736 + (2736 + 2720)) (outF m c) from rfl,
      oPts_add c fullShare (8192 * qr (znbr c)) 2736 (2736 + 2720) (outF m c), oPts_add c fullShare (8192 * qr (znbr c) + 2736) 2736 2720 (outF m c)]
  have hy : oPts c fullShare (8192 * qr (ynbr c)) 8192 (outF m c) = iprop(oPts c fullShare (8192 * qr (ynbr c)) 2736 (outF m c)
      ∗ oPts c fullShare (8192 * qr (ynbr c) + 2736) 5456 (outF m c)) := by
    rw [show oPts c fullShare (8192 * qr (ynbr c)) 8192 (outF m c) = oPts c fullShare (8192 * qr (ynbr c)) (2736 + 5456) (outF m c) from rfl,
      oPts_add c fullShare (8192 * qr (ynbr c)) 2736 5456 (outF m c)]
  rw [oWhole, hz, hy]
  unfold zLeft yLeft
  iintro ⟨H1, ⟨Z1, Z3⟩, Y2, ⟨D1, D2⟩, Y1, Z2⟩
  isplitl [H1]; · iexact H1
  isplitl [Z1 Z2 Z3]
  · isplitl [Z1]; · iexact Z1
    isplitl [Z2]; · iexact Z2
    iexact Z3
  isplitl [Y1 Y2]
  · isplitl [Y1]; · iexact Y1
    iexact Y2
  isplitl [D1]; · iexact D1
  iexact D2

/-- All the cells are closed at the end: their counters are zero. -/
theorem close_all : iprop(amb m K ∗ pos c 0 11 ∗ fam 79 (fun i => pos c (1 + i) 1) ∗ pos c 80 1)
    ⊢ |={Set.univ}=> fam 81 (fun k => semVal (cell c k) 0) := by
  rw [fam_all (fun k => semVal (cell c k) 0)]
  iintro ⟨#Ha, H0, H, Hb⟩
  imod (close_dma m K c (k := 0) (r := 11) (by omega) (fun r hr h => by have h : r < 11 := h; omega)) $$ [H0] with H0
  · isplitr; · iexact Ha
    iexact H0
  imod (close_bar m K c) $$ [Hb] with Hb
  · isplitr; · iexact Ha
    iexact Hb
  imod (fam_fupd (A := amb m K) (n := 79) (fun i => pos c (1 + i) 1) (fun i => semVal (cell c (1 + i)) 0) (fun i hi =>
    close_dma m K c (k := 1 + i) (r := 1) (by omega) (fun r hr h => by unfold HasRound at h; rw [if_neg (by omega)] at h; omega))) $$ [H] with H
  · isplitr; · iexact Ha
    iexact H
  imodintro
  isplitl [H0]; · iexact H0
  isplitl [H]; · iexact H
  iexact Hb

end Cert.AllSum

end
-- ==== Proof.Body.lean ====
/-
# The kernel on one device

The phases one after the other.
-/
module

public import proofs.«01_k».proof.Proof.Hold

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 81 → ℕ) (c : Dev nD)
variable {Q : PUnit.{1} → sProp (MT nD τ sig Unit (Elt F) ℕ UU ℕ)}

set_option maxHeartbeats 1000000 in
/-- From the start, device `c` runs to the end: it owes nothing, its counters are zero, the result's buffer holds the
    result and the argument is what it was. -/
theorem body_run :
    iprop(amb m K ∗ owe c 0 ∗ fam 81 (fun k => pos c k 0) ∗ payToks c ∗ credits c ∗ memory m c (oAll m c))
      ⊢ iprop(((owe c 37 ∗ fam 81 (fun k => semVal (cell c k) 0) ∗ memory m c (outF m c)) -∗ Q ⟨⟩) -∗ run c (main c) Q) := by
  rw [fam_all (fun k => pos c k 0), fam_cells (fun k => pos c k 0)]
  unfold payToks credits memory
  rw [toks_split]
  iintro ⟨#Ha, HO, ⟨P0, ⟨P1, P12, P23, P34, P42, P50, P58, P66, P69, P72, P76⟩, P80⟩,
    ⟨⟨B0, B1, B2⟩, T0, ⟨T1, T12, T23, T34, T42, T50, T58, T66, T69, T72, T76⟩⟩,
    ⟨C80, C23, C42, C58, C69, C76⟩, ⟨Hx, Ho, Hs, Hr, Hv⟩⟩ Hk
  ihave Ho := (give m c) $$ Ho
  icases Ho with ⟨Own, Gz, Gy⟩
  ihave Gx := (give_recv m c) $$ Hr
  unfold main
  -- the barrier
  iapply (meet_run m K c) $$ [HO B0 Gx B1 Gz B2 Gy C80 P80]
  · isplitr; · iexact Ha
    isplitl [HO]; · iexact HO
    isplitl [B0 Gx]
    · isplitl [B0]; · iexact B0
      iexact Gx
    isplitl [B1 Gz]
    · isplitl [B1]; · iexact B1
      iexact Gz
    isplitl [B2 Gy]
    · isplitl [B2]; · iexact B2
      iexact Gy
    isplitl [C80]; · iexact C80
    iexact P80
  rw [show barPay m c 0 = iprop(∃ f, rPts (mirror c) fullShare 0 10912 f) from rfl,
    show barPay m c 1 = iprop(oPts (znbr c) fullShare (8192 * qr c) 8192 (oAll m (znbr c)) ∗ oPts (znbr c) fullShare (8192 * qr (ynbr c)) 2736 (oAll m (znbr c))) from rfl,
    show barPay m c 2 = iprop(oPts (ynbr c) fullShare (8192 * qr c) 8192 (oAll m (ynbr c)) ∗ oPts (ynbr c) fullShare (8192 * qr (znbr c) + 2736) 2736 (oAll m (ynbr c))) from rfl]
  iintro ⟨HO, P80, Mr, ⟨Zq, Zd⟩, ⟨Yq, Yd⟩⟩
  -- the chunks staged and sent
  ihave S := (stagePre_fam c) $$ [T0 Hs T12 T23 Mr]
  · isplitl [T0]; · iexact T0
    isplitl [Hs]; · iexact Hs
    isplitl [T12]; · iexact T12
    isplitl [T23]; · iexact T23
    iexact Mr
  ihave #Op := (amb_opened m K c (k := 0) (by omega)) $$ Ha
  ihave HS := (show iprop(owe c 3 ∗ pos c 0 0 ∗ opened c 0 0 ∗ (∃ f, vPts c fullShare 0 1024 f) ∗ xPts c fullShare 0 32768 (xAll m c)) ⊢ staging m c 0 3 from
    Entails.of_eq rfl) $$ [HO P0 Hv Hx]
  · isplitl [HO]; · iexact HO
    isplitl [P0]; · iexact P0
    isplitr; · iexact Op
    isplitl [Hv]; · iexact Hv
    iexact Hx
  iapply (stages_run m K c) $$ [S HS]
  · isplitr; · iexact Ha
    isplitl [S]; · iexact S
    iexact HS
  iintro ⟨C12, HS⟩
  ihave HS := (show staging m c 11 14 ⊢ iprop(owe c 14 ∗ pos c 0 11 ∗ opened c 0 11 ∗ (∃ f, vPts c fullShare 0 1024 f) ∗ xPts c fullShare 0 32768 (xAll m c)) from
    Entails.of_eq rfl) $$ HS
  icases HS with ⟨HO, P0, -, Hv, Hx⟩
  -- the chunks of the own quarter summed and sent on
  ihave D23 := (Entails.of_eq (due_fam c 11 23).symm) $$ [P23 C23]
  · isplitl [P23]; · iexact P23
    iexact C23
  ihave D12 := (Entails.of_eq (due_fam c 11 12).symm) $$ [P12 C12]
  · isplitl [P12]; · iexact P12
    iexact C12
  ihave S := (sumPre_fam c (oAll m c)) $$ [D23 D12 T1 Own]
  · isplitl [D23]; · iexact D23
    isplitl [D12]; · iexact D12
    isplitl [T1]; · iexact T1
    iexact Own
  icases S with ⟨S8, S3⟩
  ihave Fn := (fanPre_fam c (oAll m (znbr c)) (oAll m (ynbr c))) $$ [T34 T42 Zq T50 T58 Yq]
  · isplitl [T34 T42 Zq]
    · isplitl [T34]; · iexact T34
      isplitl [T42]; · iexact T42
      iexact Zq
    · isplitl [T50]; · iexact T50
      isplitl [T58]; · iexact T58
      iexact Yq
  ihave S := (Entails.of_eq (fam_sep (sumPre c) (fanPre c) 8)) $$ [S8 Fn]
  · isplitl [S8]; · iexact S8
    iexact Fn
  iapply (sums_run m K c) $$ [S HO]
  · isplitr; · iexact Ha
    isplitl [S]; · iexact S
    iexact HO
  iintro ⟨S, HO⟩
  ihave S := (Entails.of_eq (fam_sep (sumPost m c) (fanPost c) 8).symm) $$ S
  icases S with ⟨S8, Fn⟩
  -- what the two neighbours in the plane send, some of it sent on
  ihave D42 := (Entails.of_eq (due_fam c 8 42).symm) $$ [P42 C42]
  · isplitl [P42]; · iexact P42
    iexact C42
  ihave D58 := (Entails.of_eq (due_fam c 8 58).symm) $$ [P58 C58]
  · isplitl [P58]; · iexact P58
    iexact C58
  ihave Fz := (zfPre_fam c (oAll m (znbr c))) $$ [T66 T69 Zd]
  · isplitl [T66]; · iexact T66
    isplitl [T69]; · iexact T69
    iexact Zd
  ihave Fy := (yfPre_fam c (oAll m (ynbr c))) $$ [T72 T76 Yd]
  · isplitl [T72]; · iexact T72
    isplitl [T76]; · iexact T76
    iexact Yd
  iapply (takes_run m K c) $$ [HO D42 D58 Fz Fy]
  · isplitr; · iexact Ha
    isplitl [HO]; · iexact HO
    isplitl [D42]; · iexact D42
    isplitl [D58]; · iexact D58
    isplitl [Fz]; · iexact Fz
    iexact Fy
  iintro ⟨HO, P42, P58, C66, C72, Zl, Yl⟩
  -- the chunks of the diagonal quarter summed
  iapply (sumsDiag_run m K c) $$ [S3 HO]
  · isplitr; · iexact Ha
    isplitl [S3]; · iexact S3
    iexact HO
  iintro ⟨S3, HO⟩
  ihave S := (show iprop(fam 8 (sumPost m c) ∗ fam 3 (fun i => sumPost m c (8 + i))) ⊢ iprop(fam 11 (fun i => pos c (23 + i) 1)
      ∗ fam 11 (fun i => pos c (12 + i) 1) ∗ fam 11 (fun i => rPts c fullShare (1024 * i) (chunkLen i) (rcX m c)) ∗ fam 11 (fun i => cr c (1 + i) 0)) from
    Entails.of_eq (by simp only [fam_sep]; exact (fam_add (sumPost m c) 8 3).symm)) $$ [S8 S3]
  · isplitl [S8]; · iexact S8
    iexact S3
  icases S with ⟨P23, P12, Hr, C1⟩
  ihave Hr := (Entails.of_eq (rChunks c fullShare (rcX m c)).symm) $$ Hr
  -- the forwarded pieces arrive
  ihave D69 := (Entails.of_eq (due_fam c 3 69).symm) $$ [P69 C69]
  · isplitl [P69]; · iexact P69
    iexact C69
  ihave D76 := (Entails.of_eq (due_fam c 4 76).symm) $$ [P76 C76]
  · isplitl [P76]; · iexact P76
    iexact C76
  iapply (arrivals_run m K c) $$ [HO D69 D76]
  · isplitr; · iexact Ha
    isplitl [HO]; · iexact HO
    isplitl [D69]; · iexact D69
    iexact D76
  iintro ⟨HO, ⟨P69, Dz⟩, P76, Dy⟩
  -- the copies that the device started are done
  ihave Fn := (show fam 8 (fanPost c) ⊢ iprop(fam 8 (fun i => cr (F := F) c (34 + i) 0) ∗ fam 8 (fun i => cr c (50 + i) 0)) from
    Entails.of_eq (by rw [fam_sep]; rfl)) $$ Fn
  icases Fn with ⟨C34, C50⟩
  ihave D34 := (Entails.of_eq (due_fam c 8 34).symm) $$ [P34 C34]
  · isplitl [P34]; · iexact P34
    iexact C34
  ihave D50 := (Entails.of_eq (due_fam c 8 50).symm) $$ [P50 C50]
  · isplitl [P50]; · iexact P50
    iexact C50
  ihave D1 := (Entails.of_eq (due_fam c 11 1).symm) $$ [P1 C1]
  · isplitl [P1]; · iexact P1
    iexact C1
  ihave D1 := (Entails.of_eq (fam_add (fun i => due c (1 + i)) 8 3)) $$ D1
  icases D1 with ⟨D18, D13⟩
  ihave D := (show iprop(fam 8 (fun i => due c (34 + i)) ∗ fam 8 (fun i => due c (50 + i)) ∗ fam 8 (fun i => due c (1 + i)))
      ⊢ fam 8 (fun i => iprop(due (F := F) c (34 + i) ∗ due c (50 + i) ∗ due c (1 + i))) from Entails.of_eq (by rw [fam_sep, fam_sep])) $$ [D34 D50 D18]
  · isplitl [D34]; · iexact D34
    isplitl [D50]; · iexact D50
    iexact D18
  iapply (dones_run m K c) $$ [D D13 HO]
  · isplitr; · iexact Ha
    isplitl [D D13]
    · isplitl [D]; · iexact D
      iexact D13
    iexact HO
  iintro ⟨⟨E8, E3⟩, HO⟩
  ihave E8 := (show fam 8 (fun i => iprop(pos c (34 + i) 1 ∗ pos c (50 + i) 1 ∗ donePost m c i)) ⊢ iprop(fam 8 (fun i => pos c (34 + i) 1)
      ∗ fam 8 (fun i => pos c (50 + i) 1) ∗ fam 8 (donePost m c)) from Entails.of_eq (by rw [fam_sep, fam_sep])) $$ E8
  icases E8 with ⟨P34, P50, E8⟩
  ihave E := (show iprop(fam 8 (donePost m c) ∗ fam 3 (fun i => donePost m c (8 + i))) ⊢ iprop(fam 11 (fun i => pos c (1 + i) 1)
      ∗ fam 11 (fun i => oPts c fullShare (grow c (1024 * i)) (chunkLen i) (outF m c)) ∗ fam 11 (fun i => sPts c fullShare (1024 * i) (chunkLen i) (suX m c))) from
    Entails.of_eq (by simp only [fam_sep]; exact (fam_add (donePost m c) 8 3).symm)) $$ [E8 E3]
  · isplitl [E8]; · iexact E8
    iexact E3
  icases E with ⟨P1, Own, Hs⟩
  ihave Own := (Entails.of_eq (ownChunks c fullShare (outF m c))) $$ Own
  ihave Hs := (Entails.of_eq (sChunks c fullShare (suX m c)).symm) $$ Hs
  -- the pieces sent on have left
  ihave D66 := (Entails.of_eq (due_fam c 3 66).symm) $$ [P66 C66]
  · isplitl [P66]; · iexact P66
    iexact C66
  ihave D72 := (Entails.of_eq (due_fam c 4 72).symm) $$ [P72 C72]
  · isplitl [P72]; · iexact P72
    iexact C72
  iapply (departures_run m K c) $$ [HO D66 D72]
  · isplitr; · iexact Ha
    isplitl [HO]; · iexact HO
    isplitl [D66]; · iexact D66
    iexact D72
  iintro ⟨HO, ⟨P66, Yd⟩, P72, Zd⟩
  -- everything is put together
  ihave Ho := (whole m c) $$ [Own Zl Yl Dz Dy Yd Zd]
  · isplitl [Own]; · iexact Own
    isplitl [Zl]; · iexact Zl
    isplitl [Yl]; · iexact Yl
    isplitl [Dz Dy]
    · isplitl [Dz]; · iexact Dz
      iexact Dy
    isplitl [Yd]; · iexact Yd
    iexact Zd
  ihave P := (Entails.of_eq (fam_cells (fun k => pos c k 1)).symm) $$ [P1 P12 P23 P34 P42 P50 P58 P66 P69 P72 P76]
  · isplitl [P1]; · iexact P1
    isplitl [P12]; · iexact P12
    isplitl [P23]; · iexact P23
    isplitl [P34]; · iexact P34
    isplitl [P42]; · iexact P42
    isplitl [P50]; · iexact P50
    isplitl [P58]; · iexact P58
    isplitl [P66]; · iexact P66
    isplitl [P69]; · iexact P69
    isplitl [P72]; · iexact P72
    iexact P76
  imod (close_all m K c) $$ [P0 P P80] with HZ
  · isplitr; · iexact Ha
    isplitl [P0]; · iexact P0
    isplitl [P]; · iexact P
    iexact P80
  rw [wp_ret]; imodintro
  iapply Hk
  isplitl [HO]; · iexact HO
  isplitl [HZ]; · iexact HZ
  isplitl [Hx]; · iexact Hx
  isplitl [Ho]; · iexact Ho
  isplitl [Hs]; · iexists (suX m c); iexact Hs
  isplitl [Hr]; · iexists (rcX m c); iexact Hr
  iexact Hv

end Cert.AllSum

end
-- ==== Proof.Mint.lean ====
/-
# What the launch hands out

The rights to credit, minted with each cell, go to the devices that use them; what the devices owe each other at launch
is what each device is owed.
-/
module

public import proofs.«01_k».proof.Proof.Body
public import Idealize.ShloMosaic.Lib.Pipeline.Launch
public import Idealize.ShloMosaic.Lib.Pipeline.Kit

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells and the rights to credit them -/

/-- Every device's cells. -/
abbrev kcell (ck : Dev nD × Fin 81) : GSem nD τ sig := cell ck.1 ck.2.val
theorem kcell_injective : Function.Injective kcell := by
  rintro ⟨c, k⟩ ⟨c', k'⟩ h
  obtain ⟨rfl, hk⟩ := cell_inj (Nat.le_of_lt_succ k.isLt) (Nat.le_of_lt_succ k'.isLt) h
  rw [Fin.ext hk]
def allCells : Finset (GSem nD τ sig) := Finset.univ.map ⟨kcell, kcell_injective⟩

/-- A device's cells' rights: the barrier's three units, the staging cell's eleven rounds, one of every other cell. -/
abbrev TokIx : Type := Fin 3 ⊕ Fin 11 ⊕ Fin 79
def tokOf (x : Dev nD × TokIx) : GSem nD τ sig × ℕ × Fin 3 := match x.2 with
  | .inl d => (cell x.1 80, 0, d)
  | .inr (.inl i) => (cell x.1 0, i.val, 0)
  | .inr (.inr i) => (cell x.1 (1 + i.val), 0, 0)
theorem tokOf_injective : Function.Injective tokOf := by
  have key : ∀ {c c' : Dev nD} {k k' r r' : ℕ} {d d' : Fin 3}, k ≤ 80 → k' ≤ 80 → (cell c k, r, d) = (cell c' k', r', d') →
      c = c' ∧ k = k' ∧ r = r' ∧ d = d' := fun hk hk' h =>
    ⟨(cell_inj hk hk' (congrArg Prod.fst h)).1, (cell_inj hk hk' (congrArg Prod.fst h)).2, congrArg (fun x => x.2.1) h, congrArg (fun x => x.2.2) h⟩
  rintro ⟨c, d | i | i⟩ ⟨c', d' | i' | i'⟩ h
  · obtain ⟨rfl, -, -, rfl⟩ := key (le_refl _) (le_refl _) h; rfl
  · obtain ⟨-, h, -⟩ := key (le_refl _) (Nat.zero_le _) h; omega
  · obtain ⟨-, h, -⟩ := key (le_refl _) (by omega) h; omega
  · obtain ⟨-, h, -⟩ := key (Nat.zero_le _) (le_refl _) h; omega
  · obtain ⟨rfl, -, h, -⟩ := key (Nat.zero_le _) (Nat.zero_le _) h; rw [Fin.ext h]
  · obtain ⟨-, h, -⟩ := key (Nat.zero_le _) (by omega) h; omega
  · obtain ⟨-, h, -⟩ := key (by omega) (le_refl _) h; omega
  · obtain ⟨-, h, -⟩ := key (by omega) (Nat.zero_le _) h; omega
  · obtain ⟨rfl, h, -⟩ := key (by omega) (by omega) h; rw [show i = i' from Fin.ext (by omega)]
def allToks : Finset (GSem nD τ sig × ℕ × Fin 3) := Finset.univ.map ⟨tokOf, tokOf_injective⟩

/-- The rights to credit device `c`'s own cells. -/
def ownToks (c : Dev nD) : sProp (MT nD τ sig Unit (Elt F) ℕ UU ℕ) :=
  iprop((dutyTok ER (cell c 80) 0 0 ∗ dutyTok ER (cell c 80) 0 1 ∗ dutyTok ER (cell c 80) 0 2)
    ∗ fam 11 (fun i => tok c 0 i) ∗ fam 79 (fun i => tok c (1 + i) 0))

theorem allToks_eq : bigSep allToks (fun x => (dutyTok ER x.1 x.2.1 x.2.2 : sProp 𝕄)) = bigSep Finset.univ fun c : Dev nD => ownToks c := by
  unfold allToks
  rw [bigSep_map, bigSep_univ_prod]
  refine bigSep_congr fun c _ => ?_
  rw [bigSep_univ_sum, bigSep_univ_sum, bigSep_univ_eq_bigSepL [0, 1, 2] (by decide) (by decide)]
  rfl

/-- A map of the devices that is its own inverse, as a permutation. -/
def swap (f : Dev nD → Dev nD) (h : ∀ c, f (f c) = c) : Dev nD ≃ Dev nD := ⟨f, f, h, h⟩

/-- One of every other cell: cell `k`'s goes to the device at its other end. -/
theorem toks_via : (bigSep Finset.univ fun c : Dev nD => (fam 79 (fun i => tok c (1 + i) 0) : sProp 𝕄))
    = bigSep Finset.univ fun c : Dev nD => fam 79 (fun i => tok (via (1 + i) c) (1 + i) 0) := by
  unfold fam
  rw [← bigSep_univ_prod (fun x : Dev nD × Fin 79 => (tok x.1 (1 + x.2.val) 0 : sProp 𝕄)),
    ← bigSep_univ_prod (fun x : Dev nD × Fin 79 => (tok (via (1 + x.2.val) x.1) (1 + x.2.val) 0 : sProp 𝕄)),
    bigSep_univ_equiv (⟨fun x => (via (1 + x.2.val) x.1, x.2), fun x => (via (1 + x.2.val) x.1, x.2),
      fun x => by simp only [via_via], fun x => by simp only [via_via]⟩ : Dev nD × Fin 79 ≃ Dev nD × Fin 79)]
  rfl

/-- The rights dealt to the devices that use them. -/
theorem toks_around : (bigSep Finset.univ fun c : Dev nD => (ownToks c : sProp 𝕄)) = bigSep Finset.univ fun c : Dev nD => payToks c := by
  unfold ownToks payToks
  rw [bigSep_sep', bigSep_sep', bigSep_sep', bigSep_sep', bigSep_sep', bigSep_sep', bigSep_sep', bigSep_sep', toks_via,
    bigSep_univ_equiv (swap mirror mirror_mirror) (fun c : Dev nD => (dutyTok ER (cell c 80) 0 0 : sProp 𝕄)),
    bigSep_univ_equiv (swap znbr znbr_znbr) (fun c : Dev nD => (dutyTok ER (cell c 80) 0 1 : sProp 𝕄)),
    bigSep_univ_equiv (swap ynbr ynbr_ynbr) (fun c : Dev nD => (dutyTok ER (cell c 80) 0 2 : sProp 𝕄))]
  rfl

/-! ## What a device is owed -/

/-- A device's cells are all its semaphores. -/
def smEquiv : Fin 81 ≃ SemLoc sig := Equiv.ofBijective (fun k => sm k.val) ⟨fun k k' h => Fin.ext (sm_inj (by omega) (by omega) h), fun s => by
  cases s with
  | reg s => exact ⟨⟨80, by decide⟩, sm_bar.trans (congrArg SemLoc.reg (Subsingleton.elim _ _))⟩
  | dma s => exact ⟨⟨s.val, Nat.lt_succ_of_lt (show s.val < 80 from s.isLt)⟩, sm_dma (show s.val < 80 from s.isLt)⟩⟩

/-- The cells that other devices credit by transfers. -/
def Recv (k : ℕ) : Prop := (23 ≤ k ∧ k < 34) ∨ (42 ≤ k ∧ k < 50) ∨ (58 ≤ k ∧ k < 66) ∨ (69 ≤ k ∧ k < 72) ∨ (76 ≤ k ∧ k < 80)
instance (k : ℕ) : Decidable (Recv k) := by unfold Recv; infer_instance

theorem dues_of_recv {k : ℕ} (h : Recv k) : ((Finset.range 37).filter fun j => dueK j = k).card = 1 := by
  have key : ∀ k : Fin 80, Recv k.val → ((Finset.range 37).filter fun j => dueK j = k.val).card = 1 := by decide +kernel
  exact key ⟨k, by unfold Recv at h; omega⟩ h
theorem dues_of_bar : ((Finset.range 37).filter fun j => dueK j = 80).card = 3 := by decide +kernel
theorem dueK_bar {j : ℕ} (h : j < 37) : dueK j = 80 ↔ j < 3 := by
  have key : ∀ j : Fin 37, dueK j.val = 80 ↔ j.val < 3 := by decide +kernel
  exact key ⟨j, h⟩

/-- What all devices together owe cell `k` of device `c`: each due of that number once. -/
theorem owed_sum (c : Dev nD) {k : ℕ} (hk : k ≤ 80) :
    ∑ d : Dev nD, owed d 0 (cell c k) () = ∑ j ∈ (Finset.range 37).filter (fun j => dueK j = k), dueAmt j := by
  have h1 : ∀ d : Dev nD, owed d 0 (cell c k) () = ∑ j ∈ Finset.range 37, if d = dueTo j c ∧ dueK j = k then dueAmt j else 0 := fun d => by
    unfold owed
    rw [Finset.sum_apply, Finsupp.finset_sum_apply, ← Finset.range_eq_Ico]
    refine Finset.sum_congr rfl fun j hj => ?_
    rw [tallyAt_apply]
    refine if_congr ⟨fun h => ?_, fun h => ?_⟩ rfl rfl
    · obtain ⟨h, h'⟩ := cell_inj hk (dueK_le j (Finset.mem_range.mp hj)) h.1
      exact ⟨by rw [h, dueTo_dueTo], h'.symm⟩
    · obtain ⟨rfl, rfl⟩ := h
      exact ⟨by rw [dueTo_dueTo], rfl⟩
  rw [Finset.sum_congr rfl fun d _ => h1 d, Finset.sum_comm, Finset.sum_filter]
  refine Finset.sum_congr rfl fun j _ => ?_
  by_cases h : dueK j = k
  · simp only [h, _root_.and_true, if_true, Finset.sum_ite_eq', Finset.mem_univ]
  · simp only [h, _root_.and_false, if_false, Finset.sum_const_zero]

/-- What a cell is owed at launch. -/
theorem launch_cell (c : Dev nD) {k n : ℕ} (h : ∑ d : Dev nD, owed d 0 (cell c k) () = n) :
    tallyOn (cell c k) (launchCredit (Pipeline.owing fun d => owed d 0) 0 (cell c k)) = (tallyAt (cell c k) () n : CellTallies nD τ sig Unit) := by
  unfold tallyAt
  refine congrArg _ (Finsupp.ext fun u => ?_)
  cases u
  rw [Pipeline.launchCredit_owing, Finsupp.single_eq_same, h]
theorem launch_bar (c : Dev nD) : ∑ d : Dev nD, owed d 0 (cell c 80) () = 3 := by
  rw [owed_sum c (le_refl _), Finset.sum_congr rfl fun j hj => show dueAmt j = 1 from if_pos
    ((dueK_bar (Finset.mem_range.mp (Finset.mem_filter.mp hj).1)).mp (Finset.mem_filter.mp hj).2), Finset.sum_const, dues_of_bar]
  rfl
theorem launch_recv (c : Dev nD) {k : ℕ} (h : Recv k) : ∑ d : Dev nD, owed d 0 (cell c k) () = amt k 0 := by
  have hk : k < 80 := by unfold Recv at h; omega
  rw [owed_sum c hk.le, Finset.sum_congr rfl fun j hj => show dueAmt j = amt k 0 from by
    obtain ⟨h1, h2⟩ := Finset.mem_filter.mp hj
    have := dueK_bar (Finset.mem_range.mp h1)
    unfold dueAmt; rw [if_neg (by omega), h2], Finset.sum_const, dues_of_recv h, one_smul]

/-- The credit of the launch is what the device waits for. -/
theorem creds (c : Dev nD) : (Pipeline.launchCred (fun d => owed d 0) c : sProp 𝕄) ⊢ credits c := by
  have h : (Pipeline.launchCred (fun d => owed d 0) c : sProp 𝕄)
      = fam 81 (fun k => cred (tallyOn (cell c k) (launchCredit (Pipeline.owing fun d => owed d 0) 0 (cell c k)))) := by
    unfold Pipeline.launchCred fam
    rw [bigSep_univ_equiv smEquiv]
    rfl
  have recv : ∀ (n a : ℕ), (∀ i, i < n → Recv (a + i)) →
      fam n (fun i => cred (tallyOn (cell c (a + i)) (launchCredit (Pipeline.owing fun d => owed d 0) 0 (cell c (a + i)))))
        = fam n (fun i => cr (F := F) c (a + i) 0) := fun n a h =>
    fam_congr fun i hi => by rw [launch_cell c (launch_recv c (h i hi))]; rfl
  rw [h, fam_all (fun k => cred (tallyOn (cell c k) (launchCredit (Pipeline.owing fun d => owed d 0) 0 (cell c k)))),
    fam_cells (fun k => cred (tallyOn (cell c k) (launchCredit (Pipeline.owing fun d => owed d 0) 0 (cell c k)))), launch_cell c (launch_bar c),
    recv 11 23 fun i hi => by unfold Recv; omega, recv 8 42 fun i hi => by unfold Recv; omega, recv 8 58 fun i hi => by unfold Recv; omega,
    recv 3 69 fun i hi => by unfold Recv; omega, recv 4 76 fun i hi => by unfold Recv; omega]
  unfold credits
  iintro ⟨-, ⟨-, -, H23, -, H42, -, H58, -, H69, -, H76⟩, HB⟩
  isplitl [HB]; · iexact HB
  isplitl [H23]; · iexact H23
  isplitl [H42]; · iexact H42
  isplitl [H58]; · iexact H58
  isplitl [H69]; · iexact H69
  iexact H76

end Cert.AllSum

end
-- ==== Proof.Launch.lean ====
/-
# The whole run

Every device's body from the launch to the end, put together: the run of @main ends with the two planes' sum on every
device, the argument as it was and every counter at zero.
-/
module

public import proofs.«01_k».proof.Proof.Mint
public import proofs.«01_k».proof.Proof.Gen.KernelIdeal.Launch
public import Idealize.ShloMosaic.Lib.Pipeline.Launch
public import Idealize.ShloMosaic.Lib.Quiescent
public import Idealize.ShloMosaic.Lib.Pipeline.Quiescent
public import Idealize.ShloMosaic.Lib.Pipeline.Kit

@[expose] public section

noncomputable section

namespace Cert.AllSum

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The cells' invariants, for all devices at once -/

/-- The kernel's own semaphores: all but the barrier's. -/
abbrev osem : Fin 80 → SemLoc sig := fun i => .dma i
theorem ownSemFacts : Pipeline.OwnSemFacts cfg0.spec osem := ⟨by decide, fun a b h => by injection h, fun k w => w.elim0⟩

abbrev ownZero (c : Dev nD) : sProp (MT nD τ sig Unit (Elt F) ℕ UU ℕ) :=
  Pipeline.ownSems0 (Ix := Unit) (Name := ℕ) (U := UU) (Lvl := ℕ) (Val := Elt F) (τ := τ) osem c

theorem ownZero_eq (c : Dev nD) : (ownZero c : sProp 𝕄) = iprop(semVal (cell c 0) 0 ∗ fam 79 fun i => semVal (cell c (1 + i)) 0) := by
  have h : (ownZero c : sProp 𝕄) = fam (1 + 79) fun k => semVal (cell c k) 0 := by
    unfold fam
    exact bigSep_congr fun k _ => by simp only [cell_dma c k]
  rw [h, fam_add, fam_one]
theorem barZero_eq (c : Dev nD) : (unscopedSems0 c : sProp 𝕄) = semVal (cell c 80) 0 := by
  unfold unscopedSems0
  rw [bigSep_eq_bigSepL_of_eq [SemLoc.reg barS] (by decide) (by decide), cell_bar]
  rfl
/-- A device's semaphores at zero, cell by cell. -/
theorem zeros_eq (c : Dev nD) : iprop(ownZero c ∗ unscopedSems0 c) = (fam 81 fun k => semVal (cell c k) 0 : sProp 𝕄) := by
  rw [ownZero_eq, barZero_eq, fam_all (fun k => semVal (cell c k) 0)]
  refine Entails.antisymm ?_ ?_
  · show (_ : sProp 𝕄) ⊢ _
    iintro ⟨⟨H0, H⟩, HB⟩
    isplitl [H0]; · iexact H0
    isplitl [H] <;> iassumption
  · show (_ : sProp 𝕄) ⊢ _
    iintro ⟨H0, H, HB⟩
    isplitl [H0 H]
    · isplitl [H0] <;> iassumption
    iexact HB

/-- The launch's element: the library's own and the rounds of every cell. -/
def u₀ : UU := (initOf (Pipeline.cells cfgs cellOf_inj) (Pipeline.launchToks cfgs cellOf_inj), initOf allCells allToks)

/-- What of it is device `c`'s. -/
def G (c : Dev nD) : sProp (MT nD τ sig Unit (Elt F) ℕ UU ℕ) :=
  iprop((bigSep Finset.univ fun k : Fin 81 => roundState ER (Rd m) (kcell (c, k)) 0)
    ∗ (fam 81 fun k => pos c k 0) ∗ (bigSep Finset.univ fun k : Fin 81 => reached ER (kcell (c, k)) 0) ∗ ownToks c)
/-- What the device has of it once the cells' invariants are made. -/
def G' (c : Dev nD) : sProp (MT nD τ sig Unit (Elt F) ℕ UU ℕ) :=
  iprop(∃ K, records m K ∗ (fam 81 fun k => pos c k 0) ∗ payToks c)

theorem fund_all : BI.own (ER (initOf allCells allToks)) ⊢ (|==> bigSep Finset.univ (G m) : sProp 𝕄) := by
  have hC (Φ : GSem nD τ sig → sProp 𝕄) : bigSep allCells Φ = bigSep Finset.univ fun c : Dev nD => bigSep Finset.univ fun k : Fin 81 => Φ (kcell (c, k)) := by
    unfold allCells; rw [bigSep_map, bigSep_univ_prod]; rfl
  iintro H
  imod (Rounds.fund ER (Rd m) allCells allToks) $$ H with ⟨Hs, Hr, Hp, Ht⟩
  imodintro
  ihave Hs := (Entails.of_eq (hC fun g => roundState ER (Rd m) g 0)) $$ Hs
  ihave Hp := (Entails.of_eq (hC fun g => atPos ER g 0 ∅ 0)) $$ Hp
  ihave Hr := (Entails.of_eq (hC fun g => reached ER g 0)) $$ Hr
  ihave Ht := (Entails.of_eq allToks_eq) $$ Ht
  unfold G
  rw [bigSep_sep', bigSep_sep', bigSep_sep']
  isplitl [Hs]; · iexact Hs
  isplitl [Hp]; · iexact Hp
  isplitl [Hr] <;> iassumption

/-- A device's cells get their invariants. -/
theorem core_alloc (c : Dev nD) : iprop(ownZero c ∗ unscopedSems0 c ∗ G m c)
    ⊢ |={Set.univ}=> iprop((bigSep Finset.univ fun k : Fin 81 => iprop(∃ κ : ℕ, cellInv ER (Rd m) κ (kcell (c, k))))
      ∗ (fam 81 fun k => pos c k 0) ∗ (bigSep Finset.univ fun k : Fin 81 => reached ER (kcell (c, k)) 0) ∗ ownToks c) := by
  have hinv : iprop((fam 81 fun k => semVal (cell c k) 0) ∗ bigSep Finset.univ fun k : Fin 81 => roundState ER (Rd m) (kcell (c, k)) 0)
      ⊢ (|={Set.univ}=> bigSep Finset.univ fun k : Fin 81 => iprop(∃ κ : ℕ, cellInv ER (Rd m) κ (kcell (c, k))) : sProp 𝕄) := by
    unfold fam
    rw [← bigSep_sep']
    exact (bigSep_mono fun k _ => (Rounds.body_intro ER (Rd m) (kcell (c, k))).trans inv_alloc).trans (bigSep_fupd _ _)
  unfold G
  iintro ⟨Ho, Hu, Hs, H⟩
  ihave Hz := (Entails.of_eq (zeros_eq (F := F) c)) $$ [Ho Hu]
  · isplitl [Ho] <;> iassumption
  imod hinv $$ [Hz Hs] with HI
  · isplitl [Hz] <;> iassumption
  imodintro
  isplitl [HI] <;> iassumption

/-- The invariants are shared out, and the rights dealt to the devices that use them. -/
theorem regroup : (bigSep Finset.univ fun c : Dev nD => iprop((bigSep Finset.univ fun k : Fin 81 => iprop(∃ κ : ℕ, cellInv ER (Rd m) κ (kcell (c, k))))
      ∗ (fam 81 fun k => pos c k 0) ∗ (bigSep Finset.univ fun k : Fin 81 => reached ER (kcell (c, k)) 0) ∗ ownToks c) : sProp 𝕄)
    ⊢ bigSep Finset.univ (G' m) := by
  rw [bigSep_sep', bigSep_sep', bigSep_sep', ← bigSep_univ_prod (fun ck : Dev nD × Fin 81 => iprop(∃ κ : ℕ, cellInv ER (Rd m) κ (kcell ck))),
    ← bigSep_univ_prod (fun ck : Dev nD × Fin 81 => (reached ER (kcell ck) 0 : sProp 𝕄)), toks_around]
  iintro ⟨HI, Hp, #HR, Ht⟩
  ihave HK := (BI.bigSep_exists_pi Finset.univ (fun (ck : Dev nD × Fin 81) (κ : ℕ) => (cellInv ER (Rd m) κ (kcell ck) : sProp 𝕄))) $$ HI
  icases HK with ⟨%K, #HI⟩
  ihave H := (Entails.of_eq (bigSep_sep' Finset.univ (fun c : Dev nD => (fam 81 fun k => pos c k 0 : sProp 𝕄)) payToks).symm) $$ [Hp Ht]
  · isplitl [Hp] <;> iassumption
  iapply (BI.bigSep_with_persistent (R := records m K) (Φ := fun c : Dev nD => iprop((fam 81 fun k => pos c k 0) ∗ payToks c)) fun c _ =>
    show iprop(records m K ∗ (fam 81 fun k => pos c k 0) ∗ payToks c) ⊢ G' m c from by
      unfold G'; iintro H; iexists K; iexact H)
  isplitr
  · unfold records
    isplitl; · iexact HI
    iexact HR
  · iexact H

theorem glob : (bigSep Finset.univ fun c => iprop(ownZero c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The body, from the launch to the end -/

/-- What a device's body starts from, but for its scratch buffers. -/
def start (c : Dev nD) : sProp (MT nD τ sig Unit (Elt F) ℕ UU ℕ) :=
  iprop(G' m c ∗ levAts L lv ∗ credits c ∗ xPts c fullShare 0 32768 (xAll m c) ∗ oPts c fullShare 0 32768 (oAll m c))
/-- The scratch buffers, at some contents. -/
def scratch (c : Dev nD) : sProp (MT nD τ sig Unit (Elt F) ℕ UU ℕ) :=
  iprop((∃ f, sPts c fullShare 0 10912 f) ∗ (∃ f, rPts c fullShare 0 10912 f) ∗ ∃ f, vPts c fullShare 0 1024 f)
/-- What is left of the device's state that the launch can see. -/
def final (c : Dev nD) : sProp (MT nD τ sig Unit (Elt F) ℕ UU ℕ) :=
  iprop(unscopedSems0 c ∗ xPts c fullShare 0 32768 (xAll m c) ∗ oPts c fullShare 0 32768 (outF m c))
def Φ₀ (c : Dev nD) : sProp (MT nD τ sig Unit (Elt F) ℕ UU ℕ) := iprop(start m c ∗ scratch c)
def Φ₁ (c : Dev nD) : sProp (MT nD τ sig Unit (Elt F) ℕ UU ℕ) := iprop(final m c ∗ ownZero c ∗ scratch c)

def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => owed c 0
    | ⟨_ + 1, _⟩ => 0

set_option maxRecDepth 8000 in
theorem body_called (t : Fin cfg0.N) : defs₀ (F := F) .tc cfg0.body (cfg0.bodyArgs t (cfg0.slots t)) = .op .deviceId fun d => main d :=
  (show _ = bodyAt0 (F := F) t from rfl).trans (body_eq t)

theorem body_obligation (c : Dev nD) : BodyObligation (dats (F := F) m 0 c) (defs₀ (F := F)) 𝒱₀ () Set.univ := fun t => by
  rw [fin_N0 t, show (Finset.univ : Finset (Fin cfg0.W)) = ∅ from rfl, bigSep_empty, bigSep_empty, body_called, wp_deviceId,
    show (dats m 0 c).Φ t0_0.castSucc = Φ₀ m c from rfl, show (dats m 0 c).Φ t0_0.succ = Φ₁ m c from rfl]
  unfold Dat.owesAt Pipeline.owesWithin Φ₀ start G'
  rw [show (dats m 0 c).owed t0_0.castSucc = owed c 0 from rfl, show (dats m 0 c).owed t0_0.succ = owed c 37 from (owed_end c).symm]
  iintro ⟨⟨⟨⟨%K, #HR, Hp, Ht⟩, #HL, Hc, Hx, Ho⟩, Hscr⟩, ⟨%W, -, HO⟩, Hw⟩
  iapply (body_run m K c) $$ [Hp Ht Hc Hx Ho Hscr HO]
  · isplitr
    · unfold amb
      isplitr; · iexact HR
      iexact HL
    isplitl [HO]; · unfold owe; iexists W; iexact HO
    isplitl [Hp]; · iexact Hp
    isplitl [Ht]; · iexact Ht
    isplitl [Hc]; · iexact Hc
    unfold memory scratch
    isplitl [Hx]; · iexact Hx
    isplitl [Ho]; · iexact Ho
    iexact Hscr
  · unfold owe memory Φ₁ final scratch
    iintro ⟨⟨%W', HO⟩, Hz, Hx, Ho, Hscr⟩
    ihave Hz := (Entails.of_eq (zeros_eq (F := F) c).symm) $$ Hz
    icases Hz with ⟨Hz, HB⟩
    isplitl [Hz HB Hx Ho Hscr]
    · isplitl [HB Hx Ho]
      · isplitl [HB]; · iexact HB
        isplitl [Hx] <;> iassumption
      · isplitl [Hz] <;> iassumption
    isplitl [HO]
    · iexists W'
      isplitr; · ipureintro; exact fun _ _ => Or.inl trivial
      iexact HO
    iexact Hw

/-! ## What the launch theorem asks -/

theorem share_eq (c : Dev nD) (w : Fin cfg0.W) : (dats m 0 c).share w = fullShare := w.elim0

theorem xPts_all (c : Dev nD) (f : (Sn 32768).Idx → Elt F .f32) : (xPts c fullShare 0 32768 f : sProp 𝕄) = (((c : Thread nD τ).loc main_arg0) ↦{fullShare} f) := by
  unfold xPts; rw [rowsIn_all]
theorem oPts_all (c : Dev nD) (f : (Sn 32768).Idx → Elt F .bf16) : (oPts c fullShare 0 32768 f : sProp 𝕄) = (((c : Thread nD τ).loc main_v1) ↦{fullShare} f) := by
  unfold oPts; rw [rowsIn_all]
theorem scratch_eq (c : Dev nD) : (scratch c : sProp 𝕄) = Pipeline.scopedRest cfg0.spec c := by
  rw [scopedRest0_eq]
  unfold scratch sPts rPts vPts
  rw [rowsIn_all, rowsIn_all]
  rfl

theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' m c)
      ⊢ |={Set.univ}=> iprop(start m c ∗ emp) := by
  rw [Pipeline.unscopedRestP_none, unscopedRest0_eq]
  iintro ⟨⟨Hx, Ho⟩, Hl, Hc, -, HG⟩
  ihave Hc := (creds (F := F) c) $$ Hc
  imodintro
  unfold start
  rw [xPts_all, oPts_all]
  isplitl
  · isplitl [HG]; · iexact HG
    isplitl [Hl]; · iexact Hl
    isplitl [Hc]; · iexact Hc
    isplitl [Hx]; · iexact Hx
    iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, ← scratch_eq]
  unfold Φ₀
  iintro ⟨Hs, -, H⟩
  isplitl [Hs] <;> iassumption

theorem phi1_exit (c : Dev nD) : (dats m 0 c).Φ (Fin.last cfg0.N) ⊢ iprop(final m c ∗ ownZero c ∗ Pipeline.scopedRest cfg0.spec c) := by
  rw [show (dats m 0 c).Φ (Fin.last cfg0.N) = Φ₁ m c from rfl, ← scratch_eq]
  unfold Φ₁
  iintro H; iexact H

theorem waits (c : Dev nD) : (levAts L lv : sProp 𝕄) ⊢ Pipeline.cellsWaits cfgs (dats m) () 0 c :=
  Pipeline.cellsWaits_intro cfgs (dats m) () 0 c fun w => w.elim0

/-- What can be read of a device at the end. -/
def QY (c : Dev nD) (s : MemSt nD τ sig (Elt F)) : Prop :=
  s.mem ((c : Thread nD τ).loc main_v1) = outF m c ∧ s.mem ((c : Thread nD τ).loc main_arg0) = m ((c : Thread nD τ).loc main_arg0)
    ∧ ∀ sm : SemLoc sig, sm.isScoped .tc = false → s.sem ((c.tc : Thread nD τ), sm) = 0

theorem final_read (c : Dev nD) (s : Phys nD τ sig (Elt F)) :
    iprop(final m c ∗ emp ∗ SI s) ⊢ |={Set.univ}=> (iprop(⌜QY m c s.mem⌝ ∗ SI s) : sProp 𝕄) := by
  unfold final
  rw [xPts_all, oPts_all]
  iintro ⟨⟨Hb, Hx, Ho⟩, -, HSI⟩
  icombine HSI Hx gives %hx
  icombine HSI Ho gives %ho
  ihave %hb := (tcUnscoped_read c s) $$ [Hb HSI]
  · isplitl [Hb] <;> iassumption
  imodintro
  isplitr
  · ipureintro
    exact ⟨Buf.eq_of_forall_mem_univ ho, Buf.eq_of_forall_mem_univ hx, hb⟩
  · iexact HSI

set_option maxRecDepth 100000 in
/-- For any float values, from any memory with zero counters: every fair execution of @main ends, with each device's result
    holding the two planes' sum, its argument as it was and every counter at zero. -/
theorem run_main : θ_run defs (onTc (τ := τ) (Cert.KernelIdeal.main (F := F))) ⟨m, fun _ => 0, ρ⟩
    (fun r => (∀ c : Dev nD, r.2.mem ((c : Thread nD τ).loc main_v1) = outF m c
      ∧ r.2.mem ((c : Thread nD τ).loc main_arg0) = m ((c : Thread nD τ).loc main_arg0)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ Cert.KernelIdeal.main
    (hmain := fun _ => rfl) (hbody := body_obligation m) (hne := fun w => w.elim0) (harr := arr_whole0) (hstage := stage_whole0)
    (hshare := share_eq m) (hdistinct := winFacts0.arr_inj)
    (O₀ := fun d => owed d 0) (howed₀ := fun _ => rfl) (howedN := fun _ => rfl) (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m) (hA := fun _ w => w.elim0) (hpf := fun _ k => k.elim0)
    (X := start m) (Y := final m) (Z := fun _ => iprop(emp))
    (hX := start_intro m ρ) (hin := phi0_intro m) (hout := phi1_exit m)
    (QY := QY m) (hY := final_read m)
    (hQ := fun _ h hs => ⟨fun c => ⟨(h c).2.2.1, (h c).2.2.2.1⟩, sem_eq_zero hs fun c => (h c).2.2.2.2⟩)

end Cert.AllSum

end
-- ==== Proof.RefValue.lean ====
/-
# The reference's run

The reference cuts the whole argument in two halves of rows and adds them. Its run ends with that sum in the result, the
argument as it was and, having no semaphore, every counter at zero.
-/
module

public import proofs.«01_k».proof.Proof.Gen.ReferenceIdeal
public import Idealize.ShloMosaic.Lib.StableHlo.Run
public import Idealize.ShloMosaic.Lib.Quiescent
public import Idealize.ShloMosaic.Lib.Pointwise.Reduce
public import Idealize.ShloMosaic.Lib.Pipeline.Value

@[expose] public section

noncomputable section

namespace Cert.AllSum.Ref

open Cert.ReferenceIdeal Cert.ReferenceIdeal.Gen
open Idealize.ShloMosaic Idealize.ShloMosaic.TcCoe Idealize.ShloMosaic.StableHlo Idealize.SL.Sem

variable {F : FTy → Type} [FloatOps F]

/-- The reference's result, from its argument. -/
def sumOut (x : S65536x1024.Idx → Elt F .f32) : S32768x1024.Idx → Elt F .bf16 :=
  truncf .bf16 (Host.reduceAdd (shapeCast S2x32768x1024 x shapeCasts_S65536x1024_S2x32768x1024) (constant S_ .f32 0x00000000#32)
    reducesTo_S2x32768x1024_S32768x1024_d0 h_S_) bitsLt_bf16_f32

/-- The reference's operations, in order. -/
abbrev steps : List (HloOp τ sig (Elt F)) :=
  [ reshape main_arg0 main_v0 (rfl : (.f32 : EltTy) = .f32) shapeCasts_S65536x1024_S2x32768x1024,
    nullary main_cst (constant S_ .f32 0x00000000#32),
    binary main_v0 main_cst main_v1 (fun x v => Host.reduceAdd x v reducesTo_S2x32768x1024_S32768x1024_d0 h_S_),
    unary main_v1 main_v2 (truncf .bf16 · bitsLt_bf16_f32) ]

theorem main_steps (c : Dev nD) : main (F := F) c = seq steps := rfl
theorem result_eq (V : Valuation τ sig (Elt F)) : after steps V (main_v2 : DevRef τ sig) = sumOut (V (main_arg0 : DevRef τ sig)) := by
  after_results
  rfl
theorem arg_eq (V : Valuation τ sig (Elt F)) : after steps V (main_arg0 : DevRef τ sig) = V (main_arg0 : DevRef τ sig) := by
  after_results

theorem steps_sub : (steps : List (HloOp τ sig (Elt F))).Forall fun op => op.bufs ⊆ tcRefs τ sig :=
  ⟨reshape_bufs_sub .., nullary_bufs_sub .., binary_bufs_sub .., unary_bufs_sub ..⟩

/-- The reference ends with its result holding the sum, its argument as it was and every counter at zero. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v2) = sumOut (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun r h => ⟨fun c => ⟨(h c main_v2).trans (result_eq _), (h c main_arg0).trans (arg_eq _)⟩,
      sem_eq_zero_of_no_sems rfl r.2⟩)
    (run_seq (by decide) (by decide) defs main (fun _ => steps) main_steps (fun _ => steps_sub) m ρ)

/-! ## The result at an index -/

/-- Row `i 0` of half `p`, at the same lane. -/
def inHalf (p : Fin 2) (i : S32768x1024.Idx) : S65536x1024.Idx :=
  ix2 (⟨32768 * p.val + (i 0).val, by have := (i 0).isLt; change _ < 32768 at this; have := p.isLt; omega⟩ : Fin 65536)
    (⟨(i 1).val, (i 1).isLt⟩ : Fin 1024)

/-- Read as two halves, the argument at half `p` is the argument at the row of that half. -/
theorem halves_apply {α : Type} (x : S65536x1024.Idx → α) (p : Fin 2) (i : S32768x1024.Idx) :
    shapeCast S2x32768x1024 x shapeCasts_S65536x1024_S2x32768x1024 (ix3 p (⟨(i 0).val, (i 0).isLt⟩ : Fin 32768) (⟨(i 1).val, (i 1).isLt⟩ : Fin 1024))
      = x (inHalf p i) :=
  shapeCast_apply x _ _ _ (by
    rw [Shape.rowMajor_val_three, Shape.rowMajor_val_two]
    show (32768 * p.val + (i 0).val) * 1024 + (i 1).val = (p.val * 32768 + (i 0).val) * 1024 + (i 1).val
    omega)

/-- At the extended reals the result is the sum of the two halves. -/
theorem sumOut_apply (x : S65536x1024.Idx → EReal) (i : S32768x1024.Idx) :
    sumOut (F := Ideal) x i = x (inHalf 0 i) + x (inHalf 1 i) := by
  show Ideal.hostReduceAdd reducesTo_S2x32768x1024_S32768x1024_d0 (shapeCast S2x32768x1024 x shapeCasts_S65536x1024_S2x32768x1024)
    (Ideal.ofBits .f32 0x00000000#32) i = _
  rw [Ideal.hostReduceAdd_r3_a0, Fin.sum_univ_two]
  rw [show Ideal.ofBits .f32 0x00000000#32 = 0 from by simp [Ideal.ofBits, Ideal.ieee], zero_add]
  exact congrArg₂ (· + ·) (halves_apply x 0 i) (halves_apply x 1 i)

end Cert.AllSum.Ref

end
-- ==== Proof.Equation.lean ====
/-
# The kernel's result is the reference's

A device holds one half of the rows, the half its plane names, and its mirror holds the other. So at the extended reals,
where a cast changes nothing and a sum has no order, what every device ends with is the sum of the two halves.
-/
module

public import proofs.«01_k».proof.Proof.Contents
public import proofs.«01_k».proof.Proof.RefValue
public import Idealize.ShloMosaic.Lib.Layout

@[expose] public section

noncomputable section

namespace Cert.AllSum

open Cert.KernelIdeal Cert.KernelIdeal.Gen
open Idealize.ShloMosaic Idealize.ShloMosaic.TcCoe

variable (m : (ℓ : Loc nD τ sig) → Buf (Elt Ideal) ℓ) (X : Cert.ReferenceIdeal.S65536x1024.Idx → EReal)

/-- Each device's argument is its half of the whole. -/
def Halved : Prop := ∀ c : Dev nD, m ((c : Thread nD τ).loc main_arg0)
  = Layout.blockN ⟨2, ![32768, 1024]⟩ ⟨2, ![65536, 1024]⟩ (Layout.meshBlock [2, 2, 2] ![[0], []] c) X

/-- The half that device `c` holds. -/
def plane (c : Dev nD) : Fin 2 := ⟨c.val / 4, by have := c.isLt; change _ < 8 at this; omega⟩

theorem plane_of_mirror (c : Dev nD) : plane (mirror c) = 1 - plane c := by
  revert c; decide +kernel

variable {m X}

/-- Device `c`'s argument at an index is the whole's at that row of its half. -/
theorem arg_apply (h : Halved m X) (c : Dev nD) (i : (Sn 32768).Idx) : xAll m c i = X (Ref.inHalf (plane c) i) := by
  unfold xAll
  rw [h c, Layout.blockN_apply]
  refine congrArg X (funext fun a => Fin.ext ?_)
  rw [Layout.TilesN.idx_val]
  have hc : c.val < 8 := c.isLt
  rcases a with ⟨_ | _ | n, ha⟩
  · show (Layout.meshLin [2, 2, 2] c.val [0]) * 32768 + (i 0).val = 32768 * (c.val / 4) + (i 0).val
    rw [show Layout.meshLin [2, 2, 2] c.val [0] = c.val / 4 % 2 * 1 + 0 from rfl]
    omega
  · show 0 * 1024 + (i 1).val = (i 1).val
    omega
  · exact absurd ha (by simp)

/-- Any device's sum is the sum of the two halves. -/
theorem sum_apply (h : Halved m X) (c : Dev nD) (i : (Sn 32768).Idx) :
    xSum m c (i 0).val (i 1).val = Ref.sumOut (F := Ideal) X i := by
  have hs : xSum m c (i 0).val (i 1).val = (xAll m c i + xAll m (mirror c) i : EReal) := by
    show (xAll m c (at32 (i 0).val (i 1).val) + xAll m (mirror c) (at32 (i 0).val (i 1).val) : EReal) = _
    rw [at32_self]
  rw [hs, arg_apply h, arg_apply h, plane_of_mirror, Ref.sumOut_apply]
  generalize plane c = p
  fin_cases p
  · rfl
  · exact add_comm _ _

/-- Every device ends with the reference's result. -/
theorem result_eq (h : Halved m X) (c : Dev nD) : outF m c = Ref.sumOut (F := Ideal) X :=
  funext fun i => sum_apply h (srcOf c (i 0).val) i

end Cert.AllSum

end
-- ==== Proof.lean ====
/-
The proof of `Cert.Claim` (Defs.lean). The run of the kernel is proved once, for any float values (Proof/Launch.lean); its
two frames and its side of the value claim are that run. The reference's run is in Proof/RefValue.lean, and that the two
results are equal in Proof/Equation.lean.
-/
module

public import proofs.«01_k».proof.Defs
public import proofs.«01_k».proof.Proof.Gen.Kernel
public import proofs.«01_k».proof.Proof.Launch
public import proofs.«01_k».proof.Proof.Equation

@[expose] public section

noncomputable section

namespace Cert.Proof

open Idealize.ShloMosaic Idealize.SL.Sem

/-- The kernel as it is, at machine floats: it ends, its argument as it was, every counter at zero. -/
theorem frame_kernel : Cert.quiescent_Kernel := fun m ρ _ =>
  (θ_run Cert.KernelIdeal.defs _ _).mono (fun _ h => ⟨fun c => (h.1 c).2, h.2⟩) (Cert.AllSum.run_main (F := Bits) m ρ)
/-- The same at the extended reals. -/
theorem frame_ideal : Cert.quiescent_KernelIdeal := fun m ρ _ =>
  (θ_run Cert.KernelIdeal.defs _ _).mono (fun _ h => ⟨fun c => (h.1 c).2, h.2⟩) (Cert.AllSum.run_main (F := Ideal) m ρ)
/-- The reference ends, its argument as it was. -/
theorem frame_reference : Cert.quiescent_ReferenceIdeal := fun m ρ _ =>
  (θ_run Cert.ReferenceIdeal.defs _ _).mono (fun _ h => ⟨fun c => (h.1 c).2, h.2⟩) (Cert.AllSum.Ref.run_ref (F := Ideal) m ρ)

/-- Every device ends with the reference's result. -/
theorem value : Cert.algebraic_KernelIdeal_ReferenceIdeal := fun m ρ m' ρ' _ hx =>
  ⟨Cert.AllSum.Ref.sumOut (F := Ideal) (m' (((0 : Dev Cert.ReferenceIdeal.nD).tc : Thread Cert.ReferenceIdeal.nD Cert.ReferenceIdeal.τ).loc Cert.ReferenceIdeal.main_arg0)),
    (θ_run Cert.KernelIdeal.defs _ _).mono (fun _ h c => ⟨(h.1 c).1.trans (Cert.AllSum.result_eq hx c), (h.1 c).2⟩)
      (Cert.AllSum.run_main (F := Ideal) m ρ),
    (θ_run Cert.ReferenceIdeal.defs _ _).mono (fun _ h => ⟨(h.1 0).1, (h.1 0).2⟩) (Cert.AllSum.Ref.run_ref (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
